-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x768 : Shape := ⟨2, ![1024, 768]⟩
abbrev S1024x256 : Shape := ⟨2, ![1024, 256]⟩
abbrev S6x2x512x128 : Shape := ⟨4, ![6, 2, 512, 128]⟩
abbrev S6x2x256x128 : Shape := ⟨4, ![6, 2, 256, 128]⟩
abbrev S6x256x128 : Shape := ⟨3, ![6, 256, 128]⟩
abbrev S6x2x128x128 : Shape := ⟨4, ![6, 2, 128, 128]⟩
abbrev S6x2x64x128 : Shape := ⟨4, ![6, 2, 64, 128]⟩
abbrev S2x2x512x128 : Shape := ⟨4, ![2, 2, 512, 128]⟩
abbrev S2x2x256x128 : Shape := ⟨4, ![2, 2, 256, 128]⟩
abbrev S2x256x128 : Shape := ⟨3, ![2, 256, 128]⟩
abbrev S2x2x128x128 : Shape := ⟨4, ![2, 2, 128, 128]⟩
abbrev S2x2x64x128 : Shape := ⟨4, ![2, 2, 64, 128]⟩
abbrev S6 : Shape := ⟨1, ![6]⟩
abbrev S2 : Shape := ⟨1, ![2]⟩
abbrev S_ : Shape := ⟨0, ![]⟩
abbrev S64x256 : Shape := ⟨2, ![64, 256]⟩
abbrev S256x128 : Shape := ⟨2, ![256, 128]⟩
abbrev S1x1x256x128 : Shape := ⟨4, ![1, 1, 256, 128]⟩
abbrev S1 : Shape := ⟨1, ![1]⟩
abbrev S1x1x512x128 : Shape := ⟨4, ![1, 1, 512, 128]⟩
abbrev S512x128 : Shape := ⟨2, ![512, 128]⟩
abbrev S64x64 : Shape := ⟨2, ![64, 64]⟩
abbrev S512x64 : Shape := ⟨2, ![512, 64]⟩
abbrev S64x768 : Shape := ⟨2, ![64, 768]⟩
abbrev S512x768 : Shape := ⟨2, ![512, 768]⟩
abbrev S1x256x128 : Shape := ⟨3, ![1, 256, 128]⟩
abbrev S1x64x128 : Shape := ⟨3, ![1, 64, 128]⟩
abbrev S64x128 : Shape := ⟨2, ![64, 128]⟩
abbrev S1x1x64x128 : Shape := ⟨4, ![1, 1, 64, 128]⟩
abbrev S1x1x128x128 : Shape := ⟨4, ![1, 1, 128, 128]⟩
abbrev S128x128 : Shape := ⟨2, ![128, 128]⟩

abbrev nBuf : Space → Nat
  | .hbm => 3
  | .vmem => 16
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S64x1024, .f32⟩
  | .local _ .vmem, ⟨0, _⟩ => ⟨S1024x64, .f32⟩
  | .local _ .vmem, ⟨1, _⟩ => ⟨S64x1024, .f32⟩
  | .local _ .vmem, ⟨2, _⟩ => ⟨S64x1024, .f32⟩
  | .local _ .vmem, ⟨3, _⟩ => ⟨S1024x64, .f32⟩
  | .local _ .vmem, ⟨4, _⟩ => ⟨S1024x768, .f32⟩
  | .local _ .vmem, ⟨5, _⟩ => ⟨S1024x256, .f32⟩
  | .local _ .vmem, ⟨6, _⟩ => ⟨S6x2x512x128, .bf16⟩
  | .local _ .vmem, ⟨7, _⟩ => ⟨S6x2x256x128, .bf16⟩
  | .local _ .vmem, ⟨8, _⟩ => ⟨S6x256x128, .f32⟩
  | .local _ .vmem, ⟨9, _⟩ => ⟨S6x2x128x128, .bf16⟩
  | .local _ .vmem, ⟨10, _⟩ => ⟨S6x2x64x128, .bf16⟩
  | .local _ .vmem, ⟨11, _⟩ => ⟨S2x2x512x128, .bf16⟩
  | .local _ .vmem, ⟨12, _⟩ => ⟨S2x2x256x128, .bf16⟩
  | .local _ .vmem, ⟨13, _⟩ => ⟨S2x256x128, .f32⟩
  | .local _ .vmem, ⟨14, _⟩ => ⟨S2x2x128x128, .bf16⟩
  | .local _ .vmem, ⟨15, _⟩ => ⟨S2x2x64x128, .bf16⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_26 : BitVec 32 := 1#32
  let v37 : BitVec 32 := Scalar.muli v12 c1_i32_26
  let v38 : BitVec 32 := Scalar.addi c0_i32 v37
  v38.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_28 : BitVec 32 := 1#32
  let v39 : BitVec 32 := Scalar.muli v15 c1_i32_28
  let v40 : BitVec 32 := Scalar.addi c0_i32_29 v39
  v40.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_31 : BitVec 32 := 1#32
  let v41 : BitVec 32 := Scalar.muli v18 c1_i32_31
  let v42 : BitVec 32 := Scalar.addi c0_i32_32 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_34 : BitVec 32 := 1#32
  let v43 : BitVec 32 := Scalar.muli v21 c1_i32_34
  let v44 : BitVec 32 := Scalar.addi c0_i32_35 v43
  v44.toNat
def k0_off1 (d0 : Dev nD) (c1_i32_21 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c256_i32 : BitVec 32 := 256#32
  let v53 : BitVec 32 := Scalar.muli v32 c256_i32
  let v54 : Index := Scalar.indexCast v53
  let c0_41 : Index := 0#32
  ![v54.toNat, 0]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_57 : BitVec 32 := 1#32
  let v67 : BitVec 32 := Scalar.muli v18 c1_i32_57
  let v68 : BitVec 32 := Scalar.addi c0_i32_58 v67
  v68.toNat
def k0_off2 (d0 : Dev nD) (c1_i32_21 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c256_i32_63 : BitVec 32 := 256#32
  let v77 : BitVec 32 := Scalar.muli v32 c256_i32_63
  let v78 : Index := Scalar.indexCast v77
  let c128 : Index := 128#32
  ![v78.toNat, 128]
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_79 : BitVec 32 := 1#32
  let v91 : BitVec 32 := Scalar.muli v18 c1_i32_79
  let v92 : BitVec 32 := Scalar.addi c0_i32_80 v91
  v92.toNat
def k0_off3 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v22 : BitVec 32 := Scalar.subi c1_i32_11 v9
  let c256_i32_151 : BitVec 32 := 256#32
  let v195 : BitVec 32 := Scalar.muli v22 c256_i32_151
  let v196 : Index := Scalar.indexCast v195
  let c0_152 : Index := 0#32
  ![v196.toNat, 0]
def k0_off4 (d0 : Dev nD) : Fin 2 → Nat :=
  let c2_i32_12 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v23 : BitVec 32 := Scalar.addi c2_i32_12 v9
  let c256_i32_157 : BitVec 32 := 256#32
  let v202 : BitVec 32 := Scalar.muli v23 c256_i32_157
  let v203 : Index := Scalar.indexCast v202
  let c0_158 : Index := 0#32
  ![v203.toNat, 0]
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_169 : BitVec 32 := 1#32
  let v209 : BitVec 32 := Scalar.muli v12 c1_i32_169
  let v210 : BitVec 32 := Scalar.addi c0_i32_170 v209
  v210.toNat
def k0_off5 (d0 : Dev nD) (c2_i32_16 : BitVec 32) : Fin 2 → Nat :=
  let c2_i32_15 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v26 : BitVec 32 := Scalar.muli c2_i32_15 v5
  let v27 : BitVec 32 := Scalar.subi c2_i32_16 v26
  let c256_i32_175 : BitVec 32 := 256#32
  let v219 : BitVec 32 := Scalar.muli v27 c256_i32_175
  let v220 : Index := Scalar.indexCast v219
  let c128_176 : Index := 128#32
  ![v220.toNat, 128]
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_193 : BitVec 32 := 1#32
  let v233 : BitVec 32 := Scalar.muli v15 c1_i32_193
  let v234 : BitVec 32 := Scalar.addi c0_i32_194 v233
  v234.toNat
def k0_off6 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v22 : BitVec 32 := Scalar.subi c1_i32_11 v9
  let c256_i32_199 : BitVec 32 := 256#32
  let v243 : BitVec 32 := Scalar.muli v22 c256_i32_199
  let v244 : Index := Scalar.indexCast v243
  let c256_200 : Index := 256#32
  ![v244.toNat, 256]
def k0_off7 (d0 : Dev nD) : Fin 2 → Nat :=
  let c2_i32_12 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v23 : BitVec 32 := Scalar.addi c2_i32_12 v9
  let c256_i32_204 : BitVec 32 := 256#32
  let v250 : BitVec 32 := Scalar.muli v23 c256_i32_204
  let v251 : Index := Scalar.indexCast v250
  let c256_205 : Index := 256#32
  ![v251.toNat, 256]
def k0_dev9 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_216 : BitVec 32 := 1#32
  let v257 : BitVec 32 := Scalar.muli v12 c1_i32_216
  let v258 : BitVec 32 := Scalar.addi c0_i32_217 v257
  v258.toNat
def k0_off8 (d0 : Dev nD) (c2_i32_16 : BitVec 32) : Fin 2 → Nat :=
  let c2_i32_15 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v26 : BitVec 32 := Scalar.muli c2_i32_15 v5
  let v27 : BitVec 32 := Scalar.subi c2_i32_16 v26
  let c256_i32_222 : BitVec 32 := 256#32
  let v267 : BitVec 32 := Scalar.muli v27 c256_i32_222
  let v268 : Index := Scalar.indexCast v267
  let c384_223 : Index := 384#32
  ![v268.toNat, 384]
def k0_dev10 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_239 : BitVec 32 := 1#32
  let v281 : BitVec 32 := Scalar.muli v15 c1_i32_239
  let v282 : BitVec 32 := Scalar.addi c0_i32_240 v281
  v282.toNat
def k0_off9 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v22 : BitVec 32 := Scalar.subi c1_i32_11 v9
  let c256_i32_245 : BitVec 32 := 256#32
  let v291 : BitVec 32 := Scalar.muli v22 c256_i32_245
  let v292 : Index := Scalar.indexCast v291
  let c512_246 : Index := 512#32
  ![v292.toNat, 512]
def k0_off10 (d0 : Dev nD) : Fin 2 → Nat :=
  let c2_i32_12 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v23 : BitVec 32 := Scalar.addi c2_i32_12 v9
  let c256_i32_250 : BitVec 32 := 256#32
  let v298 : BitVec 32 := Scalar.muli v23 c256_i32_250
  let v299 : Index := Scalar.indexCast v298
  let c512_251 : Index := 512#32
  ![v299.toNat, 512]
def k0_dev11 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_262 : BitVec 32 := 1#32
  let v305 : BitVec 32 := Scalar.muli v12 c1_i32_262
  let v306 : BitVec 32 := Scalar.addi c0_i32_263 v305
  v306.toNat
def k0_off11 (d0 : Dev nD) (c2_i32_16 : BitVec 32) : Fin 2 → Nat :=
  let c2_i32_15 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v26 : BitVec 32 := Scalar.muli c2_i32_15 v5
  let v27 : BitVec 32 := Scalar.subi c2_i32_16 v26
  let c256_i32_268 : BitVec 32 := 256#32
  let v315 : BitVec 32 := Scalar.muli v27 c256_i32_268
  let v316 : Index := Scalar.indexCast v315
  let c640_269 : Index := 640#32
  ![v316.toNat, 640]
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_284 : BitVec 32 := 1#32
  let v329 : BitVec 32 := Scalar.muli v15 c1_i32_284
  let v330 : BitVec 32 := Scalar.addi c0_i32_285 v329
  v330.toNat
def k0_off12 (d0 : Dev nD) : Fin 4 → Nat :=
  let c0_303 : Index := 0#32
  let c1_304 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c256_i32_302 : BitVec 32 := 256#32
  let v347 : BitVec 32 := Scalar.muli v35 c256_i32_302
  let v348 : Index := Scalar.indexCast v347
  let c0_305 : Index := 0#32
  ![0, 1, v348.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c256_i32_306 : BitVec 32 := 256#32
  let v352 : BitVec 32 := Scalar.muli v34 c256_i32_306
  let v353 : Index := Scalar.indexCast v352
  let c0_307 : Index := 0#32
  ![v353.toNat, 0]
def k0_dev13 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_318 : BitVec 32 := 1#32
  let v360 : BitVec 32 := Scalar.muli v21 c1_i32_318
  let v361 : BitVec 32 := Scalar.addi c0_i32_319 v360
  v361.toNat
def k0_off14 (d0 : Dev nD) : Fin 4 → Nat :=
  let c1_337 : Index := 1#32
  let c1_338 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c256_i32_336 : BitVec 32 := 256#32
  let v378 : BitVec 32 := Scalar.muli v35 c256_i32_336
  let v379 : Index := Scalar.indexCast v378
  let c0_339 : Index := 0#32
  ![1, 1, v379.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c256_i32_340 : BitVec 32 := 256#32
  let v383 : BitVec 32 := Scalar.muli v34 c256_i32_340
  let v384 : Index := Scalar.indexCast v383
  let c128_341 : Index := 128#32
  ![v384.toNat, 128]
def k0_dev14 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_352 : BitVec 32 := 1#32
  let v391 : BitVec 32 := Scalar.muli v21 c1_i32_352
  let v392 : BitVec 32 := Scalar.addi c0_i32_353 v391
  v392.toNat
def k0_off16 (d0 : Dev nD) : Fin 4 → Nat :=
  let c0_371 : Index := 0#32
  let c1_372 : Index := 1#32
  let c1_i32_14 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v25 : BitVec 32 := Scalar.subi c1_i32_14 v5
  let c256_i32_370 : BitVec 32 := 256#32
  let v409 : BitVec 32 := Scalar.muli v25 c256_i32_370
  let v410 : Index := Scalar.indexCast v409
  let c0_373 : Index := 0#32
  ![0, 1, v410.toNat, 0]
def k0_off17 (d0 : Dev nD) : Fin 2 → Nat :=
  let c3_i32_13 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v24 : BitVec 32 := Scalar.subi c3_i32_13 v3
  let c256_i32_374 : BitVec 32 := 256#32
  let v414 : BitVec 32 := Scalar.muli v24 c256_i32_374
  let v415 : Index := Scalar.indexCast v414
  let c0_375 : Index := 0#32
  ![v415.toNat, 0]
def k0_dev15 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_386 : BitVec 32 := 1#32
  let v422 : BitVec 32 := Scalar.muli v15 c1_i32_386
  let v423 : BitVec 32 := Scalar.addi c0_i32_387 v422
  v423.toNat
def k0_off18 (d0 : Dev nD) : Fin 4 → Nat :=
  let c1_405 : Index := 1#32
  let c1_406 : Index := 1#32
  let c1_i32_20 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let v31 : BitVec 32 := Scalar.subi c1_i32_20 v6
  let c256_i32_404 : BitVec 32 := 256#32
  let v440 : BitVec 32 := Scalar.muli v31 c256_i32_404
  let v441 : Index := Scalar.indexCast v440
  let c0_407 : Index := 0#32
  ![1, 1, v441.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_19 : BitVec 32 := 1#32
  let v30 : BitVec 32 := Scalar.xori v3 c1_i32_19
  let c256_i32_408 : BitVec 32 := 256#32
  let v445 : BitVec 32 := Scalar.muli v30 c256_i32_408
  let v446 : Index := Scalar.indexCast v445
  let c128_409 : Index := 128#32
  ![v446.toNat, 128]
def k0_dev16 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_420 : BitVec 32 := 1#32
  let v453 : BitVec 32 := Scalar.muli v12 c1_i32_420
  let v454 : BitVec 32 := Scalar.addi c0_i32_421 v453
  v454.toNat
def k0_off20 (d0 : Dev nD) : Fin 4 → Nat :=
  let c2_439 : Index := 2#32
  let c1_440 : Index := 1#32
  let c1_i32_14 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v25 : BitVec 32 := Scalar.subi c1_i32_14 v5
  let c256_i32_438 : BitVec 32 := 256#32
  let v471 : BitVec 32 := Scalar.muli v25 c256_i32_438
  let v472 : Index := Scalar.indexCast v471
  let c0_441 : Index := 0#32
  ![2, 1, v472.toNat, 0]
def k0_off21 (d0 : Dev nD) : Fin 2 → Nat :=
  let c3_i32_13 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v24 : BitVec 32 := Scalar.subi c3_i32_13 v3
  let c256_i32_442 : BitVec 32 := 256#32
  let v476 : BitVec 32 := Scalar.muli v24 c256_i32_442
  let v477 : Index := Scalar.indexCast v476
  let c256_443 : Index := 256#32
  ![v477.toNat, 256]
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_454 : BitVec 32 := 1#32
  let v484 : BitVec 32 := Scalar.muli v15 c1_i32_454
  let v485 : BitVec 32 := Scalar.addi c0_i32_455 v484
  v485.toNat
def k0_off22 (d0 : Dev nD) : Fin 4 → Nat :=
  let c3_473 : Index := 3#32
  let c1_474 : Index := 1#32
  let c1_i32_20 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let v31 : BitVec 32 := Scalar.subi c1_i32_20 v6
  let c256_i32_472 : BitVec 32 := 256#32
  let v502 : BitVec 32 := Scalar.muli v31 c256_i32_472
  let v503 : Index := Scalar.indexCast v502
  let c0_475 : Index := 0#32
  ![3, 1, v503.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_19 : BitVec 32 := 1#32
  let v30 : BitVec 32 := Scalar.xori v3 c1_i32_19
  let c256_i32_476 : BitVec 32 := 256#32
  let v507 : BitVec 32 := Scalar.muli v30 c256_i32_476
  let v508 : Index := Scalar.indexCast v507
  let c384_477 : Index := 384#32
  ![v508.toNat, 384]
def k0_dev18 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_488 : BitVec 32 := 1#32
  let v515 : BitVec 32 := Scalar.muli v12 c1_i32_488
  let v516 : BitVec 32 := Scalar.addi c0_i32_489 v515
  v516.toNat
def k0_off24 (d0 : Dev nD) : Fin 4 → Nat :=
  let c4_507 : Index := 4#32
  let c1_508 : Index := 1#32
  let c1_i32_14 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v25 : BitVec 32 := Scalar.subi c1_i32_14 v5
  let c256_i32_506 : BitVec 32 := 256#32
  let v533 : BitVec 32 := Scalar.muli v25 c256_i32_506
  let v534 : Index := Scalar.indexCast v533
  let c0_509 : Index := 0#32
  ![4, 1, v534.toNat, 0]
def k0_off25 (d0 : Dev nD) : Fin 2 → Nat :=
  let c3_i32_13 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v24 : BitVec 32 := Scalar.subi c3_i32_13 v3
  let c256_i32_510 : BitVec 32 := 256#32
  let v538 : BitVec 32 := Scalar.muli v24 c256_i32_510
  let v539 : Index := Scalar.indexCast v538
  let c512_511 : Index := 512#32
  ![v539.toNat, 512]
def k0_dev19 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_522 : BitVec 32 := 1#32
  let v546 : BitVec 32 := Scalar.muli v15 c1_i32_522
  let v547 : BitVec 32 := Scalar.addi c0_i32_523 v546
  v547.toNat
def k0_off26 (d0 : Dev nD) : Fin 4 → Nat :=
  let c5_541 : Index := 5#32
  let c1_542 : Index := 1#32
  let c1_i32_20 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let v31 : BitVec 32 := Scalar.subi c1_i32_20 v6
  let c256_i32_540 : BitVec 32 := 256#32
  let v564 : BitVec 32 := Scalar.muli v31 c256_i32_540
  let v565 : Index := Scalar.indexCast v564
  let c0_543 : Index := 0#32
  ![5, 1, v565.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_19 : BitVec 32 := 1#32
  let v30 : BitVec 32 := Scalar.xori v3 c1_i32_19
  let c256_i32_544 : BitVec 32 := 256#32
  let v569 : BitVec 32 := Scalar.muli v30 c256_i32_544
  let v570 : Index := Scalar.indexCast v569
  let c640_545 : Index := 640#32
  ![v570.toNat, 640]
def k0_dev20 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_556 : BitVec 32 := 1#32
  let v577 : BitVec 32 := Scalar.muli v12 c1_i32_556
  let v578 : BitVec 32 := Scalar.addi c0_i32_557 v577
  v578.toNat
def k0_off28 (d0 : Dev nD) : Fin 4 → Nat :=
  let c0_563 : Index := 0#32
  let c1_564 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c256_i32_562 : BitVec 32 := 256#32
  let v587 : BitVec 32 := Scalar.muli v7 c256_i32_562
  let v588 : Index := Scalar.indexCast v587
  let c0_565 : Index := 0#32
  ![0, 1, v588.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c256_i32_566 : BitVec 32 := 256#32
  let v592 : BitVec 32 := Scalar.muli v4 c256_i32_566
  let v593 : Index := Scalar.indexCast v592
  let c0_567 : Index := 0#32
  ![v593.toNat, 0]
def k0_off30 (d0 : Dev nD) : Fin 4 → Nat :=
  let c1_572 : Index := 1#32
  let c1_573 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c256_i32_571 : BitVec 32 := 256#32
  let v599 : BitVec 32 := Scalar.muli v7 c256_i32_571
  let v600 : Index := Scalar.indexCast v599
  let c0_574 : Index := 0#32
  ![1, 1, v600.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c256_i32_575 : BitVec 32 := 256#32
  let v604 : BitVec 32 := Scalar.muli v4 c256_i32_575
  let v605 : Index := Scalar.indexCast v604
  let c128_576 : Index := 128#32
  ![v605.toNat, 128]
def k0_off32 (d0 : Dev nD) : Fin 4 → Nat :=
  let c0_581 : Index := 0#32
  let c1_582 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let c256_i32_580 : BitVec 32 := 256#32
  let v611 : BitVec 32 := Scalar.muli v5 c256_i32_580
  let v612 : Index := Scalar.indexCast v611
  let c0_583 : Index := 0#32
  ![0, 1, v612.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_584 : BitVec 32 := 256#32
  let v616 : BitVec 32 := Scalar.muli v3 c256_i32_584
  let v617 : Index := Scalar.indexCast v616
  let c0_585 : Index := 0#32
  ![v617.toNat, 0]
def k0_off34 (d0 : Dev nD) : Fin 4 → Nat :=
  let c1_590 : Index := 1#32
  let c1_591 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c256_i32_589 : BitVec 32 := 256#32
  let v623 : BitVec 32 := Scalar.muli v6 c256_i32_589
  let v624 : Index := Scalar.indexCast v623
  let c0_592 : Index := 0#32
  ![1, 1, v624.toNat, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_593 : BitVec 32 := 256#32
  let v628 : BitVec 32 := Scalar.muli v3 c256_i32_593
  let v629 : Index := Scalar.indexCast v628
  let c128_594 : Index := 128#32
  ![v629.toNat, 128]
def k0_off36 (d0 : Dev nD) : Fin 4 → Nat :=
  let c2_599 : Index := 2#32
  let c1_600 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let c256_i32_598 : BitVec 32 := 256#32
  let v635 : BitVec 32 := Scalar.muli v5 c256_i32_598
  let v636 : Index := Scalar.indexCast v635
  let c0_601 : Index := 0#32
  ![2, 1, v636.toNat, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_602 : BitVec 32 := 256#32
  let v640 : BitVec 32 := Scalar.muli v3 c256_i32_602
  let v641 : Index := Scalar.indexCast v640
  let c256_603 : Index := 256#32
  ![v641.toNat, 256]
def k0_off38 (d0 : Dev nD) : Fin 4 → Nat :=
  let c3_608 : Index := 3#32
  let c1_609 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c256_i32_607 : BitVec 32 := 256#32
  let v647 : BitVec 32 := Scalar.muli v6 c256_i32_607
  let v648 : Index := Scalar.indexCast v647
  let c0_610 : Index := 0#32
  ![3, 1, v648.toNat, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_611 : BitVec 32 := 256#32
  let v652 : BitVec 32 := Scalar.muli v3 c256_i32_611
  let v653 : Index := Scalar.indexCast v652
  let c384_612 : Index := 384#32
  ![v653.toNat, 384]
def k0_off40 (d0 : Dev nD) : Fin 4 → Nat :=
  let c4_617 : Index := 4#32
  let c1_618 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let c256_i32_616 : BitVec 32 := 256#32
  let v659 : BitVec 32 := Scalar.muli v5 c256_i32_616
  let v660 : Index := Scalar.indexCast v659
  let c0_619 : Index := 0#32
  ![4, 1, v660.toNat, 0]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_620 : BitVec 32 := 256#32
  let v664 : BitVec 32 := Scalar.muli v3 c256_i32_620
  let v665 : Index := Scalar.indexCast v664
  let c512_621 : Index := 512#32
  ![v665.toNat, 512]
def k0_off42 (d0 : Dev nD) : Fin 4 → Nat :=
  let c5_626 : Index := 5#32
  let c1_627 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c256_i32_625 : BitVec 32 := 256#32
  let v671 : BitVec 32 := Scalar.muli v6 c256_i32_625
  let v672 : Index := Scalar.indexCast v671
  let c0_628 : Index := 0#32
  ![5, 1, v672.toNat, 0]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_629 : BitVec 32 := 256#32
  let v676 : BitVec 32 := Scalar.muli v3 c256_i32_629
  let v677 : Index := Scalar.indexCast v676
  let c640_630 : Index := 640#32
  ![v677.toNat, 640]
def k0_off44 (d0 : Dev nD) : Fin 3 → Nat :=
  let c0_646 : Index := 0#32
  let c1_i32_11 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v22 : BitVec 32 := Scalar.subi c1_i32_11 v9
  let c64_i32 : BitVec 32 := 64#32
  let v691 : BitVec 32 := Scalar.muli v22 c64_i32
  let v692 : Index := Scalar.indexCast v691
  let c0_647 : Index := 0#32
  ![0, v692.toNat, 0]
def k0_off45 (d0 : Dev nD) : Fin 4 → Nat :=
  let c0_649 : Index := 0#32
  let c1_650 : Index := 1#32
  let c1_i32_11 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v22 : BitVec 32 := Scalar.subi c1_i32_11 v9
  let c64_i32_648 : BitVec 32 := 64#32
  let v695 : BitVec 32 := Scalar.muli v22 c64_i32_648
  let v696 : Index := Scalar.indexCast v695
  let c0_651 : Index := 0#32
  ![0, 1, v696.toNat, 0]
def k0_off46 (d0 : Dev nD) : Fin 3 → Nat :=
  let c0_657 : Index := 0#32
  let c2_i32_12 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v23 : BitVec 32 := Scalar.addi c2_i32_12 v9
  let c64_i32_656 : BitVec 32 := 64#32
  let v705 : BitVec 32 := Scalar.muli v23 c64_i32_656
  let v706 : Index := Scalar.indexCast v705
  let c0_658 : Index := 0#32
  ![0, v706.toNat, 0]
def k0_off47 (d0 : Dev nD) : Fin 4 → Nat :=
  let c0_660 : Index := 0#32
  let c1_661 : Index := 1#32
  let c2_i32_12 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c2_i32 : BitVec 32 := 2#32
  let v5 : BitVec 32 := Scalar.divsi v3 c2_i32
  let v9 : BitVec 32 := Scalar.xori v6 v5
  let v23 : BitVec 32 := Scalar.addi c2_i32_12 v9
  let c64_i32_659 : BitVec 32 := 64#32
  let v709 : BitVec 32 := Scalar.muli v23 c64_i32_659
  let v710 : Index := Scalar.indexCast v709
  let c0_662 : Index := 0#32
  ![0, 1, v710.toNat, 0]
def k0_dev21 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_673 : BitVec 32 := 1#32
  let v719 : BitVec 32 := Scalar.muli v12 c1_i32_673
  let v720 : BitVec 32 := Scalar.addi c0_i32_674 v719
  v720.toNat
def k0_off48 (d0 : Dev nD) (c2_i32_16 : BitVec 32) : Fin 3 → Nat :=
  let c1_692 : Index := 1#32
  let c2_i32_15 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v26 : BitVec 32 := Scalar.muli c2_i32_15 v5
  let v27 : BitVec 32 := Scalar.subi c2_i32_16 v26
  let c64_i32_691 : BitVec 32 := 64#32
  let v737 : BitVec 32 := Scalar.muli v27 c64_i32_691
  let v738 : Index := Scalar.indexCast v737
  let c0_693 : Index := 0#32
  ![1, v738.toNat, 0]
def k0_off49 (d0 : Dev nD) (c2_i32_16 : BitVec 32) : Fin 4 → Nat :=
  let c1_695 : Index := 1#32
  let c1_696 : Index := 1#32
  let c2_i32_15 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v26 : BitVec 32 := Scalar.muli c2_i32_15 v5
  let v27 : BitVec 32 := Scalar.subi c2_i32_16 v26
  let c64_i32_694 : BitVec 32 := 64#32
  let v741 : BitVec 32 := Scalar.muli v27 c64_i32_694
  let v742 : Index := Scalar.indexCast v741
  let c0_697 : Index := 0#32
  ![1, 1, v742.toNat, 0]
def k0_dev22 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_719 : BitVec 32 := 1#32
  let v765 : BitVec 32 := Scalar.muli v15 c1_i32_719
  let v766 : BitVec 32 := Scalar.addi c0_i32_720 v765
  v766.toNat
def k0_off50 (d0 : Dev nD) (c1_i32_21 : BitVec 32) : Fin 3 → Nat :=
  let c0_738 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_737 : BitVec 32 := 64#32
  let v783 : BitVec 32 := Scalar.muli v32 c64_i32_737
  let v784 : Index := Scalar.indexCast v783
  let c0_739 : Index := 0#32
  ![0, v784.toNat, 0]
def k0_off51 (d0 : Dev nD) (c1_i32_21 : BitVec 32) : Fin 4 → Nat :=
  let c0_741 : Index := 0#32
  let c1_742 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_740 : BitVec 32 := 64#32
  let v787 : BitVec 32 := Scalar.muli v32 c64_i32_740
  let v788 : Index := Scalar.indexCast v787
  let c0_743 : Index := 0#32
  ![0, 1, v788.toNat, 0]
def k0_dev23 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_765 : BitVec 32 := 1#32
  let v811 : BitVec 32 := Scalar.muli v18 c1_i32_765
  let v812 : BitVec 32 := Scalar.addi c0_i32_766 v811
  v812.toNat
def k0_off52 (d0 : Dev nD) (c1_i32_21 : BitVec 32) : Fin 3 → Nat :=
  let c1_784 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_783 : BitVec 32 := 64#32
  let v829 : BitVec 32 := Scalar.muli v32 c64_i32_783
  let v830 : Index := Scalar.indexCast v829
  let c0_785 : Index := 0#32
  ![1, v830.toNat, 0]
def k0_off53 (d0 : Dev nD) (c1_i32_21 : BitVec 32) : Fin 4 → Nat :=
  let c1_787 : Index := 1#32
  let c1_788 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_786 : BitVec 32 := 64#32
  let v833 : BitVec 32 := Scalar.muli v32 c64_i32_786
  let v834 : Index := Scalar.indexCast v833
  let c0_789 : Index := 0#32
  ![1, 1, v834.toNat, 0]
def k0_dev24 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_811 : BitVec 32 := 1#32
  let v857 : BitVec 32 := Scalar.muli v18 c1_i32_811
  let v858 : BitVec 32 := Scalar.addi c0_i32_812 v857
  v858.toNat
def k0_off54 (d0 : Dev nD) (c1_i32_21 : BitVec 32) : Fin 3 → Nat :=
  let c2_830 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_829 : BitVec 32 := 64#32
  let v875 : BitVec 32 := Scalar.muli v32 c64_i32_829
  let v876 : Index := Scalar.indexCast v875
  let c0_831 : Index := 0#32
  ![2, v876.toNat, 0]
def k0_off55 (d0 : Dev nD) (c1_i32_21 : BitVec 32) : Fin 4 → Nat :=
  let c2_833 : Index := 2#32
  let c1_834 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_832 : BitVec 32 := 64#32
  let v879 : BitVec 32 := Scalar.muli v32 c64_i32_832
  let v880 : Index := Scalar.indexCast v879
  let c0_835 : Index := 0#32
  ![2, 1, v880.toNat, 0]
def k0_dev25 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_857 : BitVec 32 := 1#32
  let v903 : BitVec 32 := Scalar.muli v18 c1_i32_857
  let v904 : BitVec 32 := Scalar.addi c0_i32_858 v903
  v904.toNat
def k0_off56 (d0 : Dev nD) (c1_i32_21 : BitVec 32) : Fin 3 → Nat :=
  let c3_876 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_875 : BitVec 32 := 64#32
  let v921 : BitVec 32 := Scalar.muli v32 c64_i32_875
  let v922 : Index := Scalar.indexCast v921
  let c0_877 : Index := 0#32
  ![3, v922.toNat, 0]
def k0_off57 (d0 : Dev nD) (c1_i32_21 : BitVec 32) : Fin 4 → Nat :=
  let c3_879 : Index := 3#32
  let c1_880 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_878 : BitVec 32 := 64#32
  let v925 : BitVec 32 := Scalar.muli v32 c64_i32_878
  let v926 : Index := Scalar.indexCast v925
  let c0_881 : Index := 0#32
  ![3, 1, v926.toNat, 0]
def k0_dev26 (d0 : Dev nD) : Nat :=
  let c0_i32_904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_903 : BitVec 32 := 1#32
  let v949 : BitVec 32 := Scalar.muli v18 c1_i32_903
  let v950 : BitVec 32 := Scalar.addi c0_i32_904 v949
  v950.toNat
def k0_off58 (d0 : Dev nD) (c1_i32_21 : BitVec 32) : Fin 3 → Nat :=
  let c4_922 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_921 : BitVec 32 := 64#32
  let v967 : BitVec 32 := Scalar.muli v32 c64_i32_921
  let v968 : Index := Scalar.indexCast v967
  let c0_923 : Index := 0#32
  ![4, v968.toNat, 0]
def k0_off59 (d0 : Dev nD) (c1_i32_21 : BitVec 32) : Fin 4 → Nat :=
  let c4_925 : Index := 4#32
  let c1_926 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_924 : BitVec 32 := 64#32
  let v971 : BitVec 32 := Scalar.muli v32 c64_i32_924
  let v972 : Index := Scalar.indexCast v971
  let c0_927 : Index := 0#32
  ![4, 1, v972.toNat, 0]
def k0_dev27 (d0 : Dev nD) : Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_949 : BitVec 32 := 1#32
  let v995 : BitVec 32 := Scalar.muli v18 c1_i32_949
  let v996 : BitVec 32 := Scalar.addi c0_i32_950 v995
  v996.toNat
def k0_off60 (d0 : Dev nD) (c1_i32_21 : BitVec 32) : Fin 3 → Nat :=
  let c5_968 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_967 : BitVec 32 := 64#32
  let v1013 : BitVec 32 := Scalar.muli v32 c64_i32_967
  let v1014 : Index := Scalar.indexCast v1013
  let c0_969 : Index := 0#32
  ![5, v1014.toNat, 0]
def k0_off61 (d0 : Dev nD) (c1_i32_21 : BitVec 32) : Fin 4 → Nat :=
  let c5_971 : Index := 5#32
  let c1_972 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_3 : BitVec 32 := 2#32
  let v8 : BitVec 32 := Scalar.remsi v4 c2_i32_3
  let v32 : BitVec 32 := Scalar.subi c1_i32_21 v8
  let c64_i32_970 : BitVec 32 := 64#32
  let v1017 : BitVec 32 := Scalar.muli v32 c64_i32_970
  let v1018 : Index := Scalar.indexCast v1017
  let c0_973 : Index := 0#32
  ![5, 1, v1018.toNat, 0]
def k0_dev28 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_7 : BitVec 32 := 1#32
  let v16 : BitVec 32 := Scalar.xori v4 c1_i32_7
  let c4_i32_8 : BitVec 32 := 4#32
  let v17 : BitVec 32 := Scalar.muli v16 c4_i32_8
  let c4_i32 : BitVec 32 := 4#32
  let v3 : BitVec 32 := Scalar.remsi v2 c4_i32
  let v18 : BitVec 32 := Scalar.addi v17 v3
  let c1_i32_995 : BitVec 32 := 1#32
  let v1041 : BitVec 32 := Scalar.muli v18 c1_i32_995
  let v1042 : BitVec 32 := Scalar.addi c0_i32_996 v1041
  v1042.toNat
def k0_off62 (d0 : Dev nD) : Fin 4 → Nat :=
  let c0_1094 : Index := 0#32
  let c1_1095 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c64_i32_1093 : BitVec 32 := 64#32
  let v1131 : BitVec 32 := Scalar.muli v35 c64_i32_1093
  let v1132 : Index := Scalar.indexCast v1131
  let c0_1096 : Index := 0#32
  ![0, 1, v1132.toNat, 0]
def k0_off63 (d0 : Dev nD) : Fin 3 → Nat :=
  let c0_1098 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c64_i32_1097 : BitVec 32 := 64#32
  let v1136 : BitVec 32 := Scalar.muli v34 c64_i32_1097
  let v1137 : Index := Scalar.indexCast v1136
  let c0_1099 : Index := 0#32
  ![0, v1137.toNat, 0]
def k0_dev29 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_1110 : BitVec 32 := 1#32
  let v1145 : BitVec 32 := Scalar.muli v21 c1_i32_1110
  let v1146 : BitVec 32 := Scalar.addi c0_i32_1111 v1145
  v1146.toNat
def k0_off64 (d0 : Dev nD) : Fin 4 → Nat :=
  let c1_1129 : Index := 1#32
  let c1_1130 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c64_i32_1128 : BitVec 32 := 64#32
  let v1163 : BitVec 32 := Scalar.muli v35 c64_i32_1128
  let v1164 : Index := Scalar.indexCast v1163
  let c0_1131 : Index := 0#32
  ![1, 1, v1164.toNat, 0]
def k0_off65 (d0 : Dev nD) : Fin 3 → Nat :=
  let c1_1133 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c64_i32_1132 : BitVec 32 := 64#32
  let v1168 : BitVec 32 := Scalar.muli v34 c64_i32_1132
  let v1169 : Index := Scalar.indexCast v1168
  let c0_1134 : Index := 0#32
  ![1, v1169.toNat, 0]
def k0_dev30 (d0 : Dev nD) : Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_1145 : BitVec 32 := 1#32
  let v1177 : BitVec 32 := Scalar.muli v21 c1_i32_1145
  let v1178 : BitVec 32 := Scalar.addi c0_i32_1146 v1177
  v1178.toNat
def k0_off66 (d0 : Dev nD) : Fin 4 → Nat :=
  let c2_1164 : Index := 2#32
  let c1_1165 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c64_i32_1163 : BitVec 32 := 64#32
  let v1195 : BitVec 32 := Scalar.muli v35 c64_i32_1163
  let v1196 : Index := Scalar.indexCast v1195
  let c0_1166 : Index := 0#32
  ![2, 1, v1196.toNat, 0]
def k0_off67 (d0 : Dev nD) : Fin 3 → Nat :=
  let c2_1168 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c64_i32_1167 : BitVec 32 := 64#32
  let v1200 : BitVec 32 := Scalar.muli v34 c64_i32_1167
  let v1201 : Index := Scalar.indexCast v1200
  let c0_1169 : Index := 0#32
  ![2, v1201.toNat, 0]
def k0_dev31 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_1180 : BitVec 32 := 1#32
  let v1209 : BitVec 32 := Scalar.muli v21 c1_i32_1180
  let v1210 : BitVec 32 := Scalar.addi c0_i32_1181 v1209
  v1210.toNat
def k0_off68 (d0 : Dev nD) : Fin 4 → Nat :=
  let c3_1199 : Index := 3#32
  let c1_1200 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c64_i32_1198 : BitVec 32 := 64#32
  let v1227 : BitVec 32 := Scalar.muli v35 c64_i32_1198
  let v1228 : Index := Scalar.indexCast v1227
  let c0_1201 : Index := 0#32
  ![3, 1, v1228.toNat, 0]
def k0_off69 (d0 : Dev nD) : Fin 3 → Nat :=
  let c3_1203 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c64_i32_1202 : BitVec 32 := 64#32
  let v1232 : BitVec 32 := Scalar.muli v34 c64_i32_1202
  let v1233 : Index := Scalar.indexCast v1232
  let c0_1204 : Index := 0#32
  ![3, v1233.toNat, 0]
def k0_dev32 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_1215 : BitVec 32 := 1#32
  let v1241 : BitVec 32 := Scalar.muli v21 c1_i32_1215
  let v1242 : BitVec 32 := Scalar.addi c0_i32_1216 v1241
  v1242.toNat
def k0_off70 (d0 : Dev nD) : Fin 4 → Nat :=
  let c4_1234 : Index := 4#32
  let c1_1235 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c64_i32_1233 : BitVec 32 := 64#32
  let v1259 : BitVec 32 := Scalar.muli v35 c64_i32_1233
  let v1260 : Index := Scalar.indexCast v1259
  let c0_1236 : Index := 0#32
  ![4, 1, v1260.toNat, 0]
def k0_off71 (d0 : Dev nD) : Fin 3 → Nat :=
  let c4_1238 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c64_i32_1237 : BitVec 32 := 64#32
  let v1264 : BitVec 32 := Scalar.muli v34 c64_i32_1237
  let v1265 : Index := Scalar.indexCast v1264
  let c0_1239 : Index := 0#32
  ![4, v1265.toNat, 0]
def k0_dev33 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_1250 : BitVec 32 := 1#32
  let v1273 : BitVec 32 := Scalar.muli v21 c1_i32_1250
  let v1274 : BitVec 32 := Scalar.addi c0_i32_1251 v1273
  v1274.toNat
def k0_off72 (d0 : Dev nD) : Fin 4 → Nat :=
  let c5_1269 : Index := 5#32
  let c1_1270 : Index := 1#32
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let v35 : BitVec 32 := Scalar.subi c1_i32_24 v7
  let c64_i32_1268 : BitVec 32 := 64#32
  let v1291 : BitVec 32 := Scalar.muli v35 c64_i32_1268
  let v1292 : Index := Scalar.indexCast v1291
  let c0_1271 : Index := 0#32
  ![5, 1, v1292.toNat, 0]
def k0_off73 (d0 : Dev nD) : Fin 3 → Nat :=
  let c5_1273 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_23 : BitVec 32 := 2#32
  let v34 : BitVec 32 := Scalar.xori v4 c2_i32_23
  let c64_i32_1272 : BitVec 32 := 64#32
  let v1296 : BitVec 32 := Scalar.muli v34 c64_i32_1272
  let v1297 : Index := Scalar.indexCast v1296
  let c0_1274 : Index := 0#32
  ![5, v1297.toNat, 0]
def k0_dev34 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_9 : BitVec 32 := 2#32
  let v19 : BitVec 32 := Scalar.xori v4 c2_i32_9
  let c4_i32_10 : BitVec 32 := 4#32
  let v20 : BitVec 32 := Scalar.muli v19 c4_i32_10
  let c4_i32 : BitVec 32 := 4#32
  let v3 : BitVec 32 := Scalar.remsi v2 c4_i32
  let v21 : BitVec 32 := Scalar.addi v20 v3
  let c1_i32_1285 : BitVec 32 := 1#32
  let v1305 : BitVec 32 := Scalar.muli v21 c1_i32_1285
  let v1306 : BitVec 32 := Scalar.addi c0_i32_1286 v1305
  v1306.toNat
def k0_off74 (d0 : Dev nD) : Fin 4 → Nat :=
  let c0_1304 : Index := 0#32
  let c1_1305 : Index := 1#32
  let c1_i32_14 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let v25 : BitVec 32 := Scalar.subi c1_i32_14 v5
  let c64_i32_1303 : BitVec 32 := 64#32
  let v1323 : BitVec 32 := Scalar.muli v25 c64_i32_1303
  let v1324 : Index := Scalar.indexCast v1323
  let c0_1306 : Index := 0#32
  ![0, 1, v1324.toNat, 0]
def k0_off75 (d0 : Dev nD) : Fin 3 → Nat :=
  let c0_1308 : Index := 0#32
  let c3_i32_13 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v24 : BitVec 32 := Scalar.subi c3_i32_13 v3
  let c64_i32_1307 : BitVec 32 := 64#32
  let v1328 : BitVec 32 := Scalar.muli v24 c64_i32_1307
  let v1329 : Index := Scalar.indexCast v1328
  let c0_1309 : Index := 0#32
  ![0, v1329.toNat, 0]
def k0_dev35 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v13 : BitVec 32 := Scalar.muli v4 c4_i32_6
  let c3_i32 : BitVec 32 := 3#32
  let c4_i32 : BitVec 32 := 4#32
  let v3 : BitVec 32 := Scalar.remsi v2 c4_i32
  let v14 : BitVec 32 := Scalar.subi c3_i32 v3
  let v15 : BitVec 32 := Scalar.addi v13 v14
  let c1_i32_1320 : BitVec 32 := 1#32
  let v1337 : BitVec 32 := Scalar.muli v15 c1_i32_1320
  let v1338 : BitVec 32 := Scalar.addi c0_i32_1321 v1337
  v1338.toNat
def k0_off76 (d0 : Dev nD) : Fin 4 → Nat :=
  let c1_1339 : Index := 1#32
  let c1_1340 : Index := 1#32
  let c1_i32_20 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let v31 : BitVec 32 := Scalar.subi c1_i32_20 v6
  let c64_i32_1338 : BitVec 32 := 64#32
  let v1355 : BitVec 32 := Scalar.muli v31 c64_i32_1338
  let v1356 : Index := Scalar.indexCast v1355
  let c0_1341 : Index := 0#32
  ![1, 1, v1356.toNat, 0]
def k0_off77 (d0 : Dev nD) : Fin 3 → Nat :=
  let c1_1343 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_19 : BitVec 32 := 1#32
  let v30 : BitVec 32 := Scalar.xori v3 c1_i32_19
  let c64_i32_1342 : BitVec 32 := 64#32
  let v1360 : BitVec 32 := Scalar.muli v30 c64_i32_1342
  let v1361 : Index := Scalar.indexCast v1360
  let c0_1344 : Index := 0#32
  ![1, v1361.toNat, 0]
def k0_dev36 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.xori v3 c1_i32_5
  let v12 : BitVec 32 := Scalar.addi v10 v11
  let c1_i32_1355 : BitVec 32 := 1#32
  let v1369 : BitVec 32 := Scalar.muli v12 c1_i32_1355
  let v1370 : BitVec 32 := Scalar.addi c0_i32_1356 v1369
  v1370.toNat
def k0_off78 (d0 : Dev nD) : Fin 4 → Nat :=
  let c0_1374 : Index := 0#32
  let c1_1375 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c64_i32_1373 : BitVec 32 := 64#32
  let v1387 : BitVec 32 := Scalar.muli v7 c64_i32_1373
  let v1388 : Index := Scalar.indexCast v1387
  let c0_1376 : Index := 0#32
  ![0, 1, v1388.toNat, 0]
def k0_off79 (d0 : Dev nD) : Fin 3 → Nat :=
  let c0_1378 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c64_i32_1377 : BitVec 32 := 64#32
  let v1392 : BitVec 32 := Scalar.muli v4 c64_i32_1377
  let v1393 : Index := Scalar.indexCast v1392
  let c0_1379 : Index := 0#32
  ![0, v1393.toNat, 0]
def k0_off80 (d0 : Dev nD) : Fin 4 → Nat :=
  let c1_1400 : Index := 1#32
  let c1_1401 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c64_i32_1399 : BitVec 32 := 64#32
  let v1412 : BitVec 32 := Scalar.muli v7 c64_i32_1399
  let v1413 : Index := Scalar.indexCast v1412
  let c0_1402 : Index := 0#32
  ![1, 1, v1413.toNat, 0]
def k0_off81 (d0 : Dev nD) : Fin 3 → Nat :=
  let c1_1404 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c64_i32_1403 : BitVec 32 := 64#32
  let v1417 : BitVec 32 := Scalar.muli v4 c64_i32_1403
  let v1418 : Index := Scalar.indexCast v1417
  let c0_1405 : Index := 0#32
  ![1, v1418.toNat, 0]
def k0_off82 (d0 : Dev nD) : Fin 4 → Nat :=
  let c2_1426 : Index := 2#32
  let c1_1427 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c64_i32_1425 : BitVec 32 := 64#32
  let v1437 : BitVec 32 := Scalar.muli v7 c64_i32_1425
  let v1438 : Index := Scalar.indexCast v1437
  let c0_1428 : Index := 0#32
  ![2, 1, v1438.toNat, 0]
def k0_off83 (d0 : Dev nD) : Fin 3 → Nat :=
  let c2_1430 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c64_i32_1429 : BitVec 32 := 64#32
  let v1442 : BitVec 32 := Scalar.muli v4 c64_i32_1429
  let v1443 : Index := Scalar.indexCast v1442
  let c0_1431 : Index := 0#32
  ![2, v1443.toNat, 0]
def k0_off84 (d0 : Dev nD) : Fin 4 → Nat :=
  let c3_1452 : Index := 3#32
  let c1_1453 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c64_i32_1451 : BitVec 32 := 64#32
  let v1462 : BitVec 32 := Scalar.muli v7 c64_i32_1451
  let v1463 : Index := Scalar.indexCast v1462
  let c0_1454 : Index := 0#32
  ![3, 1, v1463.toNat, 0]
def k0_off85 (d0 : Dev nD) : Fin 3 → Nat :=
  let c3_1456 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c64_i32_1455 : BitVec 32 := 64#32
  let v1467 : BitVec 32 := Scalar.muli v4 c64_i32_1455
  let v1468 : Index := Scalar.indexCast v1467
  let c0_1457 : Index := 0#32
  ![3, v1468.toNat, 0]
def k0_off86 (d0 : Dev nD) : Fin 4 → Nat :=
  let c4_1478 : Index := 4#32
  let c1_1479 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c64_i32_1477 : BitVec 32 := 64#32
  let v1487 : BitVec 32 := Scalar.muli v7 c64_i32_1477
  let v1488 : Index := Scalar.indexCast v1487
  let c0_1480 : Index := 0#32
  ![4, 1, v1488.toNat, 0]
def k0_off87 (d0 : Dev nD) : Fin 3 → Nat :=
  let c4_1482 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c64_i32_1481 : BitVec 32 := 64#32
  let v1492 : BitVec 32 := Scalar.muli v4 c64_i32_1481
  let v1493 : Index := Scalar.indexCast v1492
  let c0_1483 : Index := 0#32
  ![4, v1493.toNat, 0]
def k0_off88 (d0 : Dev nD) : Fin 4 → Nat :=
  let c5_1504 : Index := 5#32
  let c1_1505 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_2 : BitVec 32 := 2#32
  let v7 : BitVec 32 := Scalar.divsi v4 c2_i32_2
  let c64_i32_1503 : BitVec 32 := 64#32
  let v1512 : BitVec 32 := Scalar.muli v7 c64_i32_1503
  let v1513 : Index := Scalar.indexCast v1512
  let c0_1506 : Index := 0#32
  ![5, 1, v1513.toNat, 0]
def k0_off89 (d0 : Dev nD) : Fin 3 → Nat :=
  let c5_1508 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c64_i32_1507 : BitVec 32 := 64#32
  let v1517 : BitVec 32 := Scalar.muli v4 c64_i32_1507
  let v1518 : Index := Scalar.indexCast v1517
  let c0_1509 : Index := 0#32
  ![5, v1518.toNat, 0]
def k0_off90 (d0 : Dev nD) : Fin 4 → Nat :=
  let c0_1530 : Index := 0#32
  let c1_1531 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.divsi v3 c2_i32
  let c64_i32_1529 : BitVec 32 := 64#32
  let v1537 : BitVec 32 := Scalar.muli v5 c64_i32_1529
  let v1538 : Index := Scalar.indexCast v1537
  let c0_1532 : Index := 0#32
  ![0, 1, v1538.toNat, 0]
def k0_off91 (d0 : Dev nD) : Fin 3 → Nat :=
  let c0_1534 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_1533 : BitVec 32 := 64#32
  let v1542 : BitVec 32 := Scalar.muli v3 c64_i32_1533
  let v1543 : Index := Scalar.indexCast v1542
  let c0_1535 : Index := 0#32
  ![0, v1543.toNat, 0]
def k0_off92 (d0 : Dev nD) : Fin 4 → Nat :=
  let c1_1556 : Index := 1#32
  let c1_1557 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_1 : BitVec 32 := 2#32
  let v6 : BitVec 32 := Scalar.remsi v3 c2_i32_1
  let c64_i32_1555 : BitVec 32 := 64#32
  let v1562 : BitVec 32 := Scalar.muli v6 c64_i32_1555
  let v1563 : Index := Scalar.indexCast v1562
  let c0_1558 : Index := 0#32
  ![1, 1, v1563.toNat, 0]
def k0_off93 (d0 : Dev nD) : Fin 3 → Nat :=
  let c1_1560 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_1559 : BitVec 32 := 64#32
  let v1567 : BitVec 32 := Scalar.muli v3 c64_i32_1559
  let v1568 : Index := Scalar.indexCast v1567
  let c0_1561 : Index := 0#32
  ![1, v1568.toNat, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
The body of the kernel written as loops over its column lanes, each lane step written once.
-/
module

public import proofs.«01_k».proof.Proof.Gen.KernelIdeal
public import proofs.«01_k».proof.Proof.Gen.KernelIdeal.Skeleton

@[expose] public section

noncomputable section

namespace Cert.Butterfly

open Cert.KernelIdeal Cert.KernelIdeal.Gen
open Idealize.ShloMosaic Idealize.SL.Sem

variable {F : FTy → Type} [FloatOps F]

/-- The programs a TensorCore runs, returning nothing. -/
abbrev Code (F : FTy → Type) [FloatOps F] := Prog (TpuEff nD τ sig (Elt F) Λ₀ .tc) PUnit

/-- Programs run one after the other. -/
def inOrder : List (Code F) → Code F
  | [] => pure ⟨⟩
  | p :: ps => do p; inOrder ps

/-! ## One exchange stage -/

/-- The buffer of one exchange stage — per lane a half to send and a half to receive, `R` rows of 128
columns each — and its semaphores. -/
structure Stage (n R : Nat) where
  buf : Memref sig .tc .vmem ⟨4, ![n, 2, R, 128]⟩ .bf16
  whole : buf.IsWhole
  snd : DmaSems sig ⟨1, ![n]⟩
  rcv : DmaSems sig ⟨1, ![n]⟩

/-- A half of a lane lies in its buffer. -/
theorem half_inb {n R : Nat} (i : Fin n) (h : Fin 2) :
    ∀ a, (![i.val, h.val, 0, 0] : Fin 4 → Nat) a + (![1, 1, R, 128] : Fin 4 → Nat) a ≤ (![n, 2, R, 128] : Fin 4 → Nat) a := by
  intro a
  have hi := i.isLt
  have hh := h.isLt
  fin_cases a <;> simp <;> omega

/-- Some of the rows of a half of a lane. -/
theorem rows_inb {n R K o : Nat} (i : Fin n) (h : Fin 2) (ho : o + K ≤ R) :
    ∀ a, (![i.val, h.val, o, 0] : Fin 4 → Nat) a + (![1, 1, K, 128] : Fin 4 → Nat) a ≤ (![n, 2, R, 128] : Fin 4 → Nat) a := by
  intro a
  have hi := i.isLt
  have hh := h.isLt
  fin_cases a <;> simp <;> omega

/-- One semaphore of an array of them. -/
theorem sem_inb {n : Nat} (i : Fin n) : ∀ a, (![i.val] : Fin 1 → Nat) a + (![1] : Fin 1 → Nat) a ≤ (![n] : Fin 1 → Nat) a := by
  intro a
  have hi := i.isLt
  fin_cases a; simp; omega

/-- Dropping the two axes of size one. -/
theorem squeezes_half (R : Nat) : (⟨4, ![1, 1, R, 128]⟩ : Shape).Squeezes ⟨2, ![R, 128]⟩ := by
  by_cases hR : R = 1 <;> simp [Shape.Squeezes, Shape.dropsOnes, hR, List.ofFn, Fin.foldr, Fin.foldr.loop]

/-- The semaphore of lane `i`. -/
def semAt {n : Nat} (a : DmaSems sig ⟨1, ![n]⟩) (i : Fin n) : DmaSem sig :=
  ((a.slice (Rect.unit (s := ⟨1, ![n]⟩) ![i.val] ![1] (sem_inb i))).squeeze S_ squeezes_S1_S_).sem

variable {n R : Nat}

/-- The rectangle of half `h` of lane `i`. -/
@[implicit_reducible] def halfRect (n R : Nat) (i : Fin n) (h : Fin 2) : Rect ⟨4, ![n, 2, R, 128]⟩ :=
  Rect.unit (s := ⟨4, ![n, 2, R, 128]⟩) ![i.val, h.val, 0, 0] ![1, 1, R, 128] (half_inb i h)

/-- Half `h` of lane `i`, as a buffer of rows and columns. -/
def Stage.half (st : Stage n R) (i : Fin n) (h : Fin 2) : Memref sig .tc .vmem ⟨2, ![R, 128]⟩ .bf16 :=
  (st.buf.slice (halfRect n R i h) (fun _ => rfl)).squeeze ⟨2, ![R, 128]⟩ (squeezes_half R)

theorem half_words (i : Fin n) (h : Fin 2) : (halfRect n R i h).WholeWords (EltTy.packing .bf16) :=
  .inr ⟨(show 2 ≤ 4 by decide), rfl, rfl, rfl⟩

theorem Stage.half_exact (st : Stage n R) (i : Fin n) (h : Fin 2) : (st.half i h).view.WordExact :=
  (st.whole.wordExact_slice rfl _ (half_words i h)).reshape _ _

theorem rows_packed (i : Fin n) (h : Fin 2) {K o : Nat} (ho : o + K ≤ R) (ho2 : 2 ∣ o) (hK2 : 2 ∣ K) :
    (Rect.unit (s := ⟨4, ![n, 2, R, 128]⟩) ![i.val, h.val, o, 0] ![1, 1, K, 128] (rows_inb i h ho)).PackedRows (EltTy.packing .bf16) := by
  have hp : EltTy.packing .bf16 = 2 := by decide
  refine .inr ⟨(show 2 ≤ 4 by decide), rfl, .inl ⟨?_, ?_⟩⟩
  · rw [hp]; exact ho2
  · rw [hp]; exact hK2

/-- Send the first half of lane `i` into the second half of lane `i` of device `d`. -/
def Stage.send (st : Stage n R) (i : Fin n) (d : Dev nD) : Code F :=
  Prog.lift (.enqueueDma (st.half i 0) (.remote (Dev.tc d) (st.half i 1) (.dma (semAt st.snd i))) (.dma (semAt st.rcv i))
    (st.half_exact i 0) (st.half_exact i 1) ⟨⟨rfl, Or.inl rfl⟩, trivial⟩)

/-- Wait for the second half of lane `i` to be received. -/
def Stage.waitRcv (st : Stage n R) (i : Fin n) : Code F :=
  Prog.lift (.waitDma2 (semAt st.rcv i) (st.half i 0) (st.half i 1) (st.half_exact i 0) (st.half_exact i 1))

/-- Wait for the first half of lane `i` to be sent. -/
def Stage.waitSnd (st : Stage n R) (i : Fin n) : Code F :=
  Prog.lift (.waitDma2 (semAt st.snd i) (st.half i 1) (st.half i 0) (st.half_exact i 1) (st.half_exact i 0))

/-- Load the rectangle at `off` of the sizes `size`. -/
def loadAt {s : Shape} {e : EltTy} (M : Memref sig .tc .vmem s e) (off size : Fin s.rank → Nat)
    (inb : ∀ a, off a + size a ≤ s.size a) (h : 0 < (⟨s.rank, size⟩ : Shape).numel) :
    Prog (TpuEff nD τ sig (Elt F) Λ₀ .tc) (Vec F ⟨s.rank, size⟩ e) :=
  Prog.lift (.load M (Rect.unit (s := s) off size inb).toLoadRect (View.loadsAt_vmem h))

/-- Store into the rectangle at `off` of the sizes `size` of a buffer of 32-bit elements. -/
def storeAt {s : Shape} (M : Memref sig .tc .vmem s .f32) (off size : Fin s.rank → Nat)
    (inb : ∀ a, off a + size a ≤ s.size a) (h : 0 < (⟨s.rank, size⟩ : Shape).numel) (v : Vec F ⟨s.rank, size⟩ .f32) : Code F :=
  Prog.lift (.store M (Rect.unit (s := s) off size inb) v Finset.univ (View.stores_vmem_bits_univ h rfl) (.inl rfl))

theorem rows_pos {K : Nat} (hK : 0 < K) : 0 < (⟨4, ![1, 1, K, 128]⟩ : Shape).numel := by
  simp [Shape.numel, Fin.prod_univ_succ, hK]

/-- Load `K` rows at row `o` of half `h` of lane `i`. -/
def Stage.get (st : Stage n R) (K : Nat) (off : Fin 4 → Nat)
    (inb : ∀ a, off a + (![1, 1, K, 128] : Fin 4 → Nat) a ≤ (![n, 2, R, 128] : Fin 4 → Nat) a) (hK : 0 < K) :
    Prog (TpuEff nD τ sig (Elt F) Λ₀ .tc) (Vec F ⟨4, ![1, 1, K, 128]⟩ .bf16) :=
  loadAt st.buf off ![1, 1, K, 128] inb (rows_pos hK)

/-- Store `K` rows at row `o` of the first half of lane `i`. -/
def Stage.put (st : Stage n R) (K : Nat) (i : Fin n) (o : Nat) (ho : o + K ≤ R) (ho2 : 2 ∣ o) (hK2 : 2 ∣ K) (hK : 0 < K)
    (v : Vec F ⟨4, ![1, 1, K, 128]⟩ .bf16) : Code F :=
  Prog.lift (.store st.buf (Rect.unit (s := ⟨4, ![n, 2, R, 128]⟩) ![i.val, 0, o, 0] ![1, 1, K, 128] (rows_inb i 0 ho)) v Finset.univ
    (View.stores_vmem (rows_pos hK) (st.whole.storeExact_slice rfl _ (rows_packed i 0 ho ho2 hK2)) (fun _ => rfl)) (.inl rfl))

/-- Store `K` rows at row `o` of the first half of lane `i`, those rows loaded before it. -/
def Stage.fill (st : Stage n R) (K : Nat) (i : Fin n) (o : Nat) (ho : o + K ≤ R) (ho2 : 2 ∣ o) (hK2 : 2 ∣ K) (hK : 0 < K)
    (v : Vec F ⟨4, ![1, 1, K, 128]⟩ .bf16) : Code F := do
  let _ ← (st.get K ![i.val, 0, o, 0] (rows_inb i 0 ho) hK : Prog (TpuEff nD τ sig (Elt F) Λ₀ .tc) _)
  st.put K i o ho ho2 hK2 hK v

/-- Store into a rectangle of a buffer of 32-bit elements, the rectangle loaded before it. -/
def fillAt {s : Shape} (M : Memref sig .tc .vmem s .f32) (off size : Fin s.rank → Nat)
    (inb : ∀ a, off a + size a ≤ s.size a) (h : 0 < (⟨s.rank, size⟩ : Shape).numel) (v : Vec F ⟨s.rank, size⟩ .f32) : Code F := do
  let _ ← (loadAt M off size inb h : Prog (TpuEff nD τ sig (Elt F) Λ₀ .tc) _)
  storeAt M off size inb h v

/-! ## The buffers of a family of lanes and its steps -/

/-- The buffers of a family of `n` column lanes: the partial products (`W` columns), the running sums, the four
exchange stages. -/
structure Fam (n W : Nat) where
  acc : Memref sig .tc .vmem ⟨2, ![1024, W]⟩ .f32
  accWhole : acc.IsWhole
  run : Memref sig .tc .vmem ⟨3, ![n, 256, 128]⟩ .f32
  runWhole : run.IsWhole
  s1 : Stage n 512
  s2 : Stage n 256
  s3 : Stage n 128
  s4 : Stage n 64

variable {W : Nat}

/-- A rectangle `o` of sizes `sz` lies in the shape of sizes `s`. -/
abbrev Inb {k : Nat} (o sz s : Fin k → Nat) : Prop := ∀ a, o a + sz a ≤ s a

theorem run_inb {K o : Nat} (i : Fin n) (ho : o + K ≤ 256) : Inb ![i.val, o, 0] ![1, K, 128] ![n, 256, 128] := by
  intro a
  have hi := i.isLt
  fin_cases a <;> simp <;> omega

/-- The first exchange of lane `i`: two blocks of 256 rows of the partial products, narrowed, sent to `d`. -/
def Fam.step1 (f : Fam n W) (i : Fin n) (o₁ o₂ : Fin 2 → Nat) (h₁ : Inb o₁ ![256, 128] ![1024, W])
    (h₂ : Inb o₂ ![256, 128] ![1024, W]) (d : Dev nD) : Code F := do
  let v ← (loadAt f.acc o₁ ![256, 128] h₁ h_S256x128 : Prog (TpuEff nD τ sig (Elt F) Λ₀ .tc) _)
  f.s1.fill 256 i 0 (by decide) (by decide) (by decide) (by decide) (k0_pay4 v)
  let w ← (loadAt f.acc o₂ ![256, 128] h₂ h_S256x128 : Prog (TpuEff nD τ sig (Elt F) Λ₀ .tc) _)
  f.s1.fill 256 i 256 (by decide) (by decide) (by decide) (by decide) (k0_pay4 w)
  f.s1.send i d

/-- The second exchange of lane `i`: a received block added to the same block of the partial products, narrowed, sent to `d`. -/
def Fam.step2 (f : Fam n W) (i : Fin n) (o₁ : Fin 4 → Nat) (h₁ : Inb o₁ ![1, 1, 256, 128] ![n, 2, 512, 128])
    (o₂ : Fin 2 → Nat) (h₂ : Inb o₂ ![256, 128] ![1024, W]) (d : Dev nD) : Code F := do
  f.s1.waitRcv i
  let v ← (f.s1.get 256 o₁ h₁ (by decide) : Prog (TpuEff nD τ sig (Elt F) Λ₀ .tc) _)
  let w ← (loadAt f.acc o₂ ![256, 128] h₂ h_S256x128 : Prog (TpuEff nD τ sig (Elt F) Λ₀ .tc) _)
  f.s2.fill 256 i 0 (by decide) (by decide) (by decide) (by decide) (k0_pay41 v w)
  f.s2.send i d

/-- The running sum of lane `i` starts: the received block the device keeps added to its own. -/
def Fam.start (f : Fam n W) (i : Fin n) (o₁ : Fin 4 → Nat) (h₁ : Inb o₁ ![1, 1, 256, 128] ![n, 2, 512, 128])
    (o₂ : Fin 2 → Nat) (h₂ : Inb o₂ ![256, 128] ![1024, W]) : Code F := do
  let v ← (f.s1.get 256 o₁ h₁ (by decide) : Prog (TpuEff nD τ sig (Elt F) Λ₀ .tc) _)
  let w ← (loadAt f.acc o₂ ![256, 128] h₂ h_S256x128 : Prog (TpuEff nD τ sig (Elt F) Λ₀ .tc) _)
  fillAt f.run ![i.val, 0, 0] ![1, 256, 128] (run_inb i (by decide)) h_S1x256x128 (k0_pay51 v w)

/-- The third exchange of lane `i`: two blocks of 64 rows of the running sum, a received block added to each, narrowed,
sent to `d`. -/
def Fam.step3 (f : Fam n W) (i : Fin n) (o₁ : Fin 3 → Nat) (h₁ : Inb o₁ ![1, 64, 128] ![n, 256, 128])
    (o₂ : Fin 4 → Nat) (h₂ : Inb o₂ ![1, 1, 64, 128] ![n, 2, 256, 128]) (o₃ : Fin 3 → Nat)
    (h₃ : Inb o₃ ![1, 64, 128] ![n, 256, 128]) (o₄ : Fin 4 → Nat)
    (h₄ : Inb o₄ ![1, 1, 64, 128] ![n, 2, 256, 128]) (d : Dev nD) : Code F := do
  f.s2.waitRcv i
  let v ← (loadAt f.run o₁ ![1, 64, 128] h₁ h_S1x64x128 : Prog (TpuEff nD τ sig (Elt F) Λ₀ .tc) _)
  let w ← (f.s2.get 64 o₂ h₂ (by decide) : Prog (TpuEff nD τ sig (Elt F) Λ₀ .tc) _)
  f.s3.fill 64 i 0 (by decide) (by decide) (by decide) (by decide) (k0_pay60 v w)
  let v' ← (loadAt f.run o₃ ![1, 64, 128] h₃ h_S1x64x128 : Prog (TpuEff nD τ sig (Elt F) Λ₀ .tc) _)
  let w' ← (f.s2.get 64 o₄ h₄ (by decide) : Prog (TpuEff nD τ sig (Elt F) Λ₀ .tc) _)
  f.s3.fill 64 i 64 (by decide) (by decide) (by decide) (by decide) (k0_pay60 v' w')
  f.s3.send i d

/-- The running sum of lane `i` takes the block received in the second exchange. -/
def Fam.grow (f : Fam n W) (i : Fin n) : Code F := do
  let v ← (loadAt f.run ![i.val, 0, 0] ![1, 256, 128] (run_inb i (by decide)) h_S1x256x128 : Prog (TpuEff nD τ sig (Elt F) Λ₀ .tc) _)
  let w ← (f.s2.get 256 ![i.val, 1, 0, 0] (rows_inb i 1 (by decide)) (by decide) : Prog (TpuEff nD τ sig (Elt F) Λ₀ .tc) _)
  fillAt f.run ![i.val, 0, 0] ![1, 256, 128] (run_inb i (by decide)) h_S1x256x128 (k0_pay82 v w)

/-- The fourth exchange of lane `i`: a received block added to the same block of the running sum, narrowed, sent to `d`. -/
def Fam.step4 (f : Fam n W) (i : Fin n) (o₁ : Fin 4 → Nat) (h₁ : Inb o₁ ![1, 1, 64, 128] ![n, 2, 128, 128])
    (o₂ : Fin 3 → Nat) (h₂ : Inb o₂ ![1, 64, 128] ![n, 256, 128]) (d : Dev nD) : Code F := do
  f.s3.waitRcv i
  let v ← (f.s3.get 64 o₁ h₁ (by decide) : Prog (TpuEff nD τ sig (Elt F) Λ₀ .tc) _)
  let w ← (loadAt f.run o₂ ![1, 64, 128] h₂ h_S1x64x128 : Prog (TpuEff nD τ sig (Elt F) Λ₀ .tc) _)
  f.s4.fill 64 i 0 (by decide) (by decide) (by decide) (by decide) (k0_pay91 (k0_pay90 v w))
  f.s4.send i d

/-- The result of lane `i`: the last three terms added, negative values replaced by zero, stored at `o₃`. -/
def Fam.finish (f : Fam n W) (out : Memref sig .tc .vmem S64x1024 .f32) (i : Fin n) (o₁ : Fin 4 → Nat)
    (h₁ : Inb o₁ ![1, 1, 64, 128] ![n, 2, 128, 128]) (o₂ : Fin 3 → Nat) (h₂ : Inb o₂ ![1, 64, 128] ![n, 256, 128])
    (o₃ : Fin 2 → Nat) (h₃ : Inb o₃ ![64, 128] ![64, 1024]) : Code F := do
  f.s4.waitRcv i
  let v ← (f.s3.get 64 o₁ h₁ (by decide) : Prog (TpuEff nD τ sig (Elt F) Λ₀ .tc) _)
  let w ← (loadAt f.run o₂ ![1, 64, 128] h₂ h_S1x64x128 : Prog (TpuEff nD τ sig (Elt F) Λ₀ .tc) _)
  let u ← (f.s4.get 64 ![i.val, 1, 0, 0] (rows_inb i 1 (by decide)) (by decide) : Prog (TpuEff nD τ sig (Elt F) Λ₀ .tc) _)
  fillAt out o₃ ![64, 128] h₃ (by decide) (k0_pay102 v w u)

end Cert.Butterfly
-- ==== Proof.Body.lean ====
/-
The kernel's body as the loops of `Program`, over the offsets it computes on its device.
-/
module

public import proofs.«01_k».proof.Proof.Program

@[expose] public section

noncomputable section

namespace Cert.Butterfly

open Cert.KernelIdeal Cert.KernelIdeal.Gen
open Idealize.ShloMosaic Idealize.SL.Sem

variable {F : FTy → Type} [FloatOps F]

/-! ## Where the steps of each family read, and the devices they send to -/

/-- First block of the first exchange, columns of `x`'s rows (family A). -/
def offA1a (d : Dev nD) : Fin 6 → (Fin 2 → Nat) :=
  ![k0_off3 d, k0_off5 d 2#32, k0_off6 d, k0_off8 d 2#32, k0_off9 d, k0_off11 d 2#32]

/-- Second block of the first exchange (family A). -/
def offA1b (d : Dev nD) : Fin 6 → (Fin 2 → Nat) :=
  ![k0_off4 d, k0_off5 d 3#32, k0_off7 d, k0_off8 d 3#32, k0_off10 d, k0_off11 d 3#32]

/-- First block of the first exchange (family B). -/
def offB1a (d : Dev nD) : Fin 2 → (Fin 2 → Nat) :=
  ![k0_off1 d 1#32, k0_off2 d 1#32]

/-- Second block of the first exchange (family B). -/
def offB1b (d : Dev nD) : Fin 2 → (Fin 2 → Nat) :=
  ![k0_off1 d 3#32, k0_off2 d 3#32]

/-- The received block the second exchange reads (family A). -/
def offA2a (d : Dev nD) : Fin 6 → (Fin 4 → Nat) :=
  ![k0_off16 d, k0_off18 d, k0_off20 d, k0_off22 d, k0_off24 d, k0_off26 d]

/-- The block of partial products the second exchange reads (family A). -/
def offA2b (d : Dev nD) : Fin 6 → (Fin 2 → Nat) :=
  ![k0_off17 d, k0_off19 d, k0_off21 d, k0_off23 d, k0_off25 d, k0_off27 d]

/-- The received block the second exchange reads (family B). -/
def offB2a (d : Dev nD) : Fin 2 → (Fin 4 → Nat) :=
  ![k0_off12 d, k0_off14 d]

/-- The block of partial products the second exchange reads (family B). -/
def offB2b (d : Dev nD) : Fin 2 → (Fin 2 → Nat) :=
  ![k0_off13 d, k0_off15 d]

/-- The received block the running sum starts from (family A). -/
def offA0a (d : Dev nD) : Fin 6 → (Fin 4 → Nat) :=
  ![k0_off32 d, k0_off34 d, k0_off36 d, k0_off38 d, k0_off40 d, k0_off42 d]

/-- The block of partial products the running sum starts from (family A). -/
def offA0b (d : Dev nD) : Fin 6 → (Fin 2 → Nat) :=
  ![k0_off33 d, k0_off35 d, k0_off37 d, k0_off39 d, k0_off41 d, k0_off43 d]

/-- The received block the running sum starts from (family B). -/
def offB0a (d : Dev nD) : Fin 2 → (Fin 4 → Nat) :=
  ![k0_off28 d, k0_off30 d]

/-- The block of partial products the running sum starts from (family B). -/
def offB0b (d : Dev nD) : Fin 2 → (Fin 2 → Nat) :=
  ![k0_off29 d, k0_off31 d]

/-- A block the third exchange reads (family A). -/
def offA3a (d : Dev nD) : Fin 6 → (Fin 3 → Nat) :=
  ![k0_off50 d 1#32, k0_off52 d 1#32, k0_off54 d 1#32, k0_off56 d 1#32, k0_off58 d 1#32, k0_off60 d 1#32]

/-- A block the third exchange reads (family A). -/
def offA3b (d : Dev nD) : Fin 6 → (Fin 4 → Nat) :=
  ![k0_off51 d 1#32, k0_off53 d 1#32, k0_off55 d 1#32, k0_off57 d 1#32, k0_off59 d 1#32, k0_off61 d 1#32]

/-- A block the third exchange reads (family A). -/
def offA3c (d : Dev nD) : Fin 6 → (Fin 3 → Nat) :=
  ![k0_off50 d 3#32, k0_off52 d 3#32, k0_off54 d 3#32, k0_off56 d 3#32, k0_off58 d 3#32, k0_off60 d 3#32]

/-- A block the third exchange reads (family A). -/
def offA3d (d : Dev nD) : Fin 6 → (Fin 4 → Nat) :=
  ![k0_off51 d 3#32, k0_off53 d 3#32, k0_off55 d 3#32, k0_off57 d 3#32, k0_off59 d 3#32, k0_off61 d 3#32]

/-- A block the third exchange reads (family B). -/
def offB3a (d : Dev nD) : Fin 2 → (Fin 3 → Nat) :=
  ![k0_off44 d, k0_off48 d 2#32]

/-- A block the third exchange reads (family B). -/
def offB3b (d : Dev nD) : Fin 2 → (Fin 4 → Nat) :=
  ![k0_off45 d, k0_off49 d 2#32]

/-- A block the third exchange reads (family B). -/
def offB3c (d : Dev nD) : Fin 2 → (Fin 3 → Nat) :=
  ![k0_off46 d, k0_off48 d 3#32]

/-- A block the third exchange reads (family B). -/
def offB3d (d : Dev nD) : Fin 2 → (Fin 4 → Nat) :=
  ![k0_off47 d, k0_off49 d 3#32]

/-- The received block the fourth exchange reads (family A). -/
def offA4a (d : Dev nD) : Fin 6 → (Fin 4 → Nat) :=
  ![k0_off62 d, k0_off64 d, k0_off66 d, k0_off68 d, k0_off70 d, k0_off72 d]

/-- The block of the running sum the fourth exchange reads (family A). -/
def offA4b (d : Dev nD) : Fin 6 → (Fin 3 → Nat) :=
  ![k0_off63 d, k0_off65 d, k0_off67 d, k0_off69 d, k0_off71 d, k0_off73 d]

/-- The received block the fourth exchange reads (family B). -/
def offB4a (d : Dev nD) : Fin 2 → (Fin 4 → Nat) :=
  ![k0_off74 d, k0_off76 d]

/-- The block of the running sum the fourth exchange reads (family B). -/
def offB4b (d : Dev nD) : Fin 2 → (Fin 3 → Nat) :=
  ![k0_off75 d, k0_off77 d]

/-- The received block the result reads (family A). -/
def offA5a (d : Dev nD) : Fin 6 → (Fin 4 → Nat) :=
  ![k0_off78 d, k0_off80 d, k0_off82 d, k0_off84 d, k0_off86 d, k0_off88 d]

/-- The block of the running sum the result reads (family A). -/
def offA5b (d : Dev nD) : Fin 6 → (Fin 3 → Nat) :=
  ![k0_off79 d, k0_off81 d, k0_off83 d, k0_off85 d, k0_off87 d, k0_off89 d]

/-- The received block the result reads (family B). -/
def offB5a (d : Dev nD) : Fin 2 → (Fin 4 → Nat) :=
  ![k0_off90 d, k0_off92 d]

/-- The block of the running sum the result reads (family B). -/
def offB5b (d : Dev nD) : Fin 2 → (Fin 3 → Nat) :=
  ![k0_off91 d, k0_off93 d]

/-- The devices exchange 1 of family B sends to. -/
def devB1 (d : Dev nD) : Fin 2 → Dev nD :=
  ![⟨k0_dev5 d, k0_dev5_lt d⟩, ⟨k0_dev6 d, k0_dev6_lt d⟩]

/-- The devices exchange 1 of family A sends to. -/
def devA1 (d : Dev nD) : Fin 6 → Dev nD :=
  ![⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩]

/-- The devices exchange 2 of family B sends to. -/
def devB2 (d : Dev nD) : Fin 2 → Dev nD :=
  ![⟨k0_dev13 d, k0_dev13_lt d⟩, ⟨k0_dev14 d, k0_dev14_lt d⟩]

/-- The devices exchange 2 of family A sends to. -/
def devA2 (d : Dev nD) : Fin 6 → Dev nD :=
  ![⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩]

/-- The devices exchange 3 of family B sends to. -/
def devB3 (d : Dev nD) : Fin 2 → Dev nD :=
  ![⟨k0_dev21 d, k0_dev21_lt d⟩, ⟨k0_dev22 d, k0_dev22_lt d⟩]

/-- The devices exchange 3 of family A sends to. -/
def devA3 (d : Dev nD) : Fin 6 → Dev nD :=
  ![⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩]

/-- The devices exchange 4 of family A sends to. -/
def devA4 (d : Dev nD) : Fin 6 → Dev nD :=
  ![⟨k0_dev29 d, k0_dev29_lt d⟩, ⟨k0_dev30 d, k0_dev30_lt d⟩, ⟨k0_dev31 d, k0_dev31_lt d⟩, ⟨k0_dev32 d, k0_dev32_lt d⟩, ⟨k0_dev33 d, k0_dev33_lt d⟩, ⟨k0_dev34 d, k0_dev34_lt d⟩]

/-- The devices exchange 4 of family B sends to. -/
def devB4 (d : Dev nD) : Fin 2 → Dev nD :=
  ![⟨k0_dev35 d, k0_dev35_lt d⟩, ⟨k0_dev36 d, k0_dev36_lt d⟩]

/-- The devices signalled at the start. -/
def devBar (d : Dev nD) : Fin 4 → Dev nD :=
  ![⟨k0_dev1 d, k0_dev1_lt d⟩, ⟨k0_dev2 d, k0_dev2_lt d⟩, ⟨k0_dev3 d, k0_dev3_lt d⟩, ⟨k0_dev4 d, k0_dev4_lt d⟩]

theorem offA1a_inb : ∀ (d : Dev nD) (i : Fin 6), Inb (offA1a d i) ![256, 128] ![1024, 768] := by unfold Inb; decide +kernel
theorem offA1b_inb : ∀ (d : Dev nD) (i : Fin 6), Inb (offA1b d i) ![256, 128] ![1024, 768] := by unfold Inb; decide +kernel
theorem offA2b_inb : ∀ (d : Dev nD) (i : Fin 6), Inb (offA2b d i) ![256, 128] ![1024, 768] := by unfold Inb; decide +kernel
theorem offA0b_inb : ∀ (d : Dev nD) (i : Fin 6), Inb (offA0b d i) ![256, 128] ![1024, 768] := by unfold Inb; decide +kernel
theorem offB1a_inb : ∀ (d : Dev nD) (i : Fin 2), Inb (offB1a d i) ![256, 128] ![1024, 256] := by unfold Inb; decide +kernel
theorem offB1b_inb : ∀ (d : Dev nD) (i : Fin 2), Inb (offB1b d i) ![256, 128] ![1024, 256] := by unfold Inb; decide +kernel
theorem offB2b_inb : ∀ (d : Dev nD) (i : Fin 2), Inb (offB2b d i) ![256, 128] ![1024, 256] := by unfold Inb; decide +kernel
theorem offB0b_inb : ∀ (d : Dev nD) (i : Fin 2), Inb (offB0b d i) ![256, 128] ![1024, 256] := by unfold Inb; decide +kernel
theorem offA2a_inb : ∀ (d : Dev nD) (i : Fin 6), Inb (offA2a d i) ![1, 1, 256, 128] ![6, 2, 512, 128] := by unfold Inb; decide +kernel
theorem offA0a_inb : ∀ (d : Dev nD) (i : Fin 6), Inb (offA0a d i) ![1, 1, 256, 128] ![6, 2, 512, 128] := by unfold Inb; decide +kernel
theorem offA3a_inb : ∀ (d : Dev nD) (i : Fin 6), Inb (offA3a d i) ![1, 64, 128] ![6, 256, 128] := by unfold Inb; decide +kernel
theorem offA3c_inb : ∀ (d : Dev nD) (i : Fin 6), Inb (offA3c d i) ![1, 64, 128] ![6, 256, 128] := by unfold Inb; decide +kernel
theorem offA3b_inb : ∀ (d : Dev nD) (i : Fin 6), Inb (offA3b d i) ![1, 1, 64, 128] ![6, 2, 256, 128] := by unfold Inb; decide +kernel
theorem offA3d_inb : ∀ (d : Dev nD) (i : Fin 6), Inb (offA3d d i) ![1, 1, 64, 128] ![6, 2, 256, 128] := by unfold Inb; decide +kernel
theorem offA4a_inb : ∀ (d : Dev nD) (i : Fin 6), Inb (offA4a d i) ![1, 1, 64, 128] ![6, 2, 128, 128] := by unfold Inb; decide +kernel
theorem offA5a_inb : ∀ (d : Dev nD) (i : Fin 6), Inb (offA5a d i) ![1, 1, 64, 128] ![6, 2, 128, 128] := by unfold Inb; decide +kernel
theorem offA4b_inb : ∀ (d : Dev nD) (i : Fin 6), Inb (offA4b d i) ![1, 64, 128] ![6, 256, 128] := by unfold Inb; decide +kernel
theorem offA5b_inb : ∀ (d : Dev nD) (i : Fin 6), Inb (offA5b d i) ![1, 64, 128] ![6, 256, 128] := by unfold Inb; decide +kernel
theorem offB2a_inb : ∀ (d : Dev nD) (i : Fin 2), Inb (offB2a d i) ![1, 1, 256, 128] ![2, 2, 512, 128] := by unfold Inb; decide +kernel
theorem offB0a_inb : ∀ (d : Dev nD) (i : Fin 2), Inb (offB0a d i) ![1, 1, 256, 128] ![2, 2, 512, 128] := by unfold Inb; decide +kernel
theorem offB3a_inb : ∀ (d : Dev nD) (i : Fin 2), Inb (offB3a d i) ![1, 64, 128] ![2, 256, 128] := by unfold Inb; decide +kernel
theorem offB3c_inb : ∀ (d : Dev nD) (i : Fin 2), Inb (offB3c d i) ![1, 64, 128] ![2, 256, 128] := by unfold Inb; decide +kernel
theorem offB3b_inb : ∀ (d : Dev nD) (i : Fin 2), Inb (offB3b d i) ![1, 1, 64, 128] ![2, 2, 256, 128] := by unfold Inb; decide +kernel
theorem offB3d_inb : ∀ (d : Dev nD) (i : Fin 2), Inb (offB3d d i) ![1, 1, 64, 128] ![2, 2, 256, 128] := by unfold Inb; decide +kernel
theorem offB4a_inb : ∀ (d : Dev nD) (i : Fin 2), Inb (offB4a d i) ![1, 1, 64, 128] ![2, 2, 128, 128] := by unfold Inb; decide +kernel
theorem offB5a_inb : ∀ (d : Dev nD) (i : Fin 2), Inb (offB5a d i) ![1, 1, 64, 128] ![2, 2, 128, 128] := by unfold Inb; decide +kernel
theorem offB4b_inb : ∀ (d : Dev nD) (i : Fin 2), Inb (offB4b d i) ![1, 64, 128] ![2, 256, 128] := by unfold Inb; decide +kernel
theorem offB5b_inb : ∀ (d : Dev nD) (i : Fin 2), Inb (offB5b d i) ![1, 64, 128] ![2, 256, 128] := by unfold Inb; decide +kernel

/-- The columns lane `i` of family A stores to lie in the result. -/
theorem outA_inb (i : Fin 6) : Inb ![0, 128 * i.val] ![64, 128] ![64, 1024] := by
  intro a; have := i.isLt; fin_cases a <;> simp <;> omega

/-- The columns lane `i` of family B stores to lie in the result. -/
theorem outB_inb (i : Fin 2) : Inb ![0, 768 + 128 * i.val] ![64, 128] ![64, 1024] := by
  intro a; have := i.isLt; fin_cases a <;> simp <;> omega

/-- The sixteen blocks of 64 rows of `x`, the order they are copied in. -/
theorem copySrc_inb (j : Fin 16) : Inb ![64 * (4 * (j.val % 4) + j.val / 4), 0] ![64, 64] ![1024, 64] := by
  intro a; have := j.isLt; fin_cases a <;> simp <;> omega

theorem copyDst_inb (j : Fin 16) : Inb ![64 * j.val, 0] ![64, 64] ![1024, 64] := by
  intro a; have := j.isLt; fin_cases a <;> simp <;> omega

theorem prod_inb (j : Fin 2) (K : Nat) : Inb ![512 * j.val, 0] ![512, K] ![1024, K] := by
  intro a; have := j.isLt; fin_cases a <;> simp <;> omega

theorem wLeft_inb : Inb ![0, 0] ![64, 768] ![64, 1024] := by decide

theorem wRight_inb : Inb ![0, 768] ![64, 256] ![64, 1024] := by decide

theorem all2_inb (a b : Nat) : Inb ![0, 0] ![a, b] ![a, b] := by
  intro k; fin_cases k <;> simp

/-! ## The body -/

/-- The buffers and semaphores of the kernel. -/
structure Bufs where
  x : Memref sig .tc .vmem S1024x64 .f32
  w : Memref sig .tc .vmem S64x1024 .f32
  out : Memref sig .tc .vmem S64x1024 .f32
  xp : Memref sig .tc .vmem S1024x64 .f32
  a : Fam 6 768
  b : Fam 2 256

/-- The barrier's semaphore. -/
abbrev barSem : Sem sig := (SemArray.scalar (sig.barrier 0 rfl) : Sems sig S_).sem

/-- Copy block `j` of the permuted rows of `x`. -/
def Bufs.copy (m : Bufs) (j : Fin 16) : Code F := do
  let v ← (loadAt m.x ![64 * (4 * (j.val % 4) + j.val / 4), 0] ![64, 64] (copySrc_inb j) h_S64x64 : Prog (TpuEff nD τ sig (Elt F) Λ₀ .tc) _)
  fillAt m.xp ![64 * j.val, 0] ![64, 64] (copyDst_inb j) h_S64x64 (k0_pay7 v)

/-- The partial products of family A, half `j` of the rows. -/
def Bufs.prodA (m : Bufs) (j : Fin 2) : Code F := do
  let v ← (loadAt m.xp ![512 * j.val, 0] ![512, 64] (prod_inb j 64) h_S512x64 : Prog (TpuEff nD τ sig (Elt F) Λ₀ .tc) _)
  let u ← (loadAt m.w ![0, 0] ![64, 768] wLeft_inb h_S64x768 : Prog (TpuEff nD τ sig (Elt F) Λ₀ .tc) _)
  fillAt m.a.acc ![512 * j.val, 0] ![512, 768] (prod_inb j 768) h_S512x768 (k0_pay26 v u)

/-- The partial products of family B. -/
def Bufs.prodB (m : Bufs) : Code F := do
  let v ← (loadAt m.x ![0, 0] ![1024, 64] (all2_inb 1024 64) h_S1024x64 : Prog (TpuEff nD τ sig (Elt F) Λ₀ .tc) _)
  let u ← (loadAt m.w ![0, 768] ![64, 256] wRight_inb h_S64x256 : Prog (TpuEff nD τ sig (Elt F) Λ₀ .tc) _)
  fillAt m.b.acc ![0, 0] ![1024, 256] (all2_inb 1024 256) h_S1024x256 (k0_pay1 v u)

/-- Each of the six lanes of a family in turn. -/
abbrev each6 (f : Fin 6 → Code F) : Code F := inOrder [f 0, f 1, f 2, f 3, f 4, f 5]

/-- Each of the two lanes of a family in turn. -/
abbrev each2 (f : Fin 2 → Code F) : Code F := inOrder [f 0, f 1]

/-- Each of sixteen steps in turn. -/
abbrev each16 (f : Fin 16 → Code F) : Code F :=
  inOrder [f 0, f 1, f 2, f 3, f 4, f 5, f 6, f 7, f 8, f 9, f 10, f 11, f 12, f 13, f 14, f 15]

/-- Signal the four neighbours. -/
def signals (d : Dev nD) : Code F :=
  inOrder [semSignalWord (devBar d 0) barSem 1#32, semSignalWord (devBar d 1) barSem 1#32,
    semSignalWord (devBar d 2) barSem 1#32, semSignalWord (devBar d 3) barSem 1#32]

/-- The phases of the body on device `d`. -/
def Bufs.phases (m : Bufs) (d : Dev nD) : List (Code F) :=
  [signals d, m.prodB, semWaitWord barSem 4#32,
   each2 fun i => m.b.step1 i (offB1a d i) (offB1b d i) (offB1a_inb d i) (offB1b_inb d i) (devB1 d i),
   each16 m.copy, each2 m.prodA,
   each6 fun i => m.a.step1 i (offA1a d i) (offA1b d i) (offA1a_inb d i) (offA1b_inb d i) (devA1 d i),
   each2 fun i => m.b.step2 i (offB2a d i) (offB2a_inb d i) (offB2b d i) (offB2b_inb d i) (devB2 d i),
   each6 fun i => m.a.step2 i (offA2a d i) (offA2a_inb d i) (offA2b d i) (offA2b_inb d i) (devA2 d i),
   each2 fun i => m.b.start i (offB0a d i) (offB0a_inb d i) (offB0b d i) (offB0b_inb d i),
   each6 fun i => m.a.start i (offA0a d i) (offA0a_inb d i) (offA0b d i) (offA0b_inb d i),
   each2 fun i => m.b.step3 i (offB3a d i) (offB3a_inb d i) (offB3b d i) (offB3b_inb d i) (offB3c d i) (offB3c_inb d i)
     (offB3d d i) (offB3d_inb d i) (devB3 d i),
   each6 fun i => m.a.step3 i (offA3a d i) (offA3a_inb d i) (offA3b d i) (offA3b_inb d i) (offA3c d i) (offA3c_inb d i)
     (offA3d d i) (offA3d_inb d i) (devA3 d i),
   each2 m.b.grow, each6 m.a.grow,
   each6 fun i => m.a.step4 i (offA4a d i) (offA4a_inb d i) (offA4b d i) (offA4b_inb d i) (devA4 d i),
   each2 fun i => m.b.step4 i (offB4a d i) (offB4a_inb d i) (offB4b d i) (offB4b_inb d i) (devB4 d i),
   each6 fun i => m.a.finish m.out i (offA5a d i) (offA5a_inb d i) (offA5b d i) (offA5b_inb d i) ![0, 128 * i.val] (outA_inb i),
   each2 fun i => m.b.finish m.out i (offB5a d i) (offB5a_inb d i) (offB5b d i) (offB5b_inb d i) ![0, 768 + 128 * i.val] (outB_inb i),
   each2 m.b.s1.waitSnd, each6 m.a.s1.waitSnd, each2 m.b.s2.waitSnd, each6 m.a.s2.waitSnd,
   each2 m.b.s3.waitSnd, each6 m.a.s3.waitSnd, each6 m.a.s4.waitSnd, each2 m.b.s4.waitSnd]

/-- The body. -/
def Bufs.body (m : Bufs) : Code F := do
  let d : Dev nD ← Prog.lift .deviceId
  inOrder (m.phases d)

end Cert.Butterfly
-- ==== Proof.Network.lean ====
/-
The 4×4 mesh the devices exchange over, the thirty-two transfers each device makes, and the offsets of the body in
closed form.
-/
module

public import proofs.«01_k».proof.Proof.Body

@[expose] public section

noncomputable section

namespace Cert.Butterfly

open Cert.KernelIdeal Cert.KernelIdeal.Gen
open Idealize.ShloMosaic Idealize.SL.Sem

variable {F : FTy → Type} [FloatOps F]

/-! ## Positions and neighbours -/

/-- The device at row `p`, column `q` of the mesh. -/
def at2 (p q : Nat) : Dev nD := ⟨(4 * p + q) % 16, Nat.mod_lt _ (by decide)⟩

/-- The four neighbours: the next column within a pair of columns, the mirrored column, the next row within a pair of
rows, the row two further. -/
def nbr : Fin 4 → Dev nD → Dev nD
  | 0, c => at2 (c.val / 4) (c.val % 4 ^^^ 1)
  | 1, c => at2 (c.val / 4) (3 - c.val % 4)
  | 2, c => at2 (c.val / 4 ^^^ 1) (c.val % 4)
  | 3, c => at2 (c.val / 4 ^^^ 2) (c.val % 4)

/-- Each neighbour relation is its own inverse. -/
theorem nbr_nbr : ∀ (d : Fin 4) (c : Dev nD), nbr d (nbr d c) = c := by decide +kernel

/-- Three ways to halve over four devices: along a row of the mesh, first within pairs (`0`) or first mirrored (`1`);
along a column of the mesh (`2`). -/
abbrev Halving := Fin 3

/-- The neighbour of the first exchange of a halving, and of the second. -/
def first : Halving → Fin 4 := ![0, 1, 2]
def second : Halving → Fin 4 := ![1, 0, 3]

/-- The block of four a device ends up owning. -/
def own : Halving → Dev nD → Nat
  | 0, c | 1, c => c.val % 4
  | 2, c => c.val / 4

/-- The block it sends in the second exchange. -/
def mate : Halving → Dev nD → Nat
  | 0, c => 3 - c.val % 4
  | 1, c => c.val % 4 ^^^ 1
  | 2, c => c.val / 4 ^^^ 2

/-- The two blocks it sends in the first exchange. -/
def lo : Halving → Dev nD → Nat
  | 0, c => 1 - (c.val % 2 ^^^ c.val % 4 / 2)
  | 1, c => 2 - 2 * (c.val % 4 / 2)
  | 2, c => 1 - c.val / 4 % 2

def hi : Halving → Dev nD → Nat
  | 0, c => 2 + (c.val % 2 ^^^ c.val % 4 / 2)
  | 1, c => 3 - 2 * (c.val % 4 / 2)
  | 2, c => 3 - c.val / 4 % 2

/-- Which of the two received blocks it keeps, and which it sends on. -/
def posOwn : Halving → Dev nD → Nat
  | 0, c => c.val % 4 / 2
  | 1, c => c.val % 2
  | 2, c => c.val / 4 / 2

def posMate : Halving → Dev nD → Nat
  | 0, c => 1 - c.val % 4 / 2
  | 1, c => 1 - c.val % 2
  | 2, c => 1 - c.val / 4 / 2

theorem blocks_lt : ∀ (h : Halving) (c : Dev nD), own h c < 4 ∧ mate h c < 4 ∧ lo h c < 4 ∧ hi h c < 4 ∧ posOwn h c < 2 ∧ posMate h c < 2 := by
  decide +kernel

/-! ## The two families of lanes and the transfers -/

/-- The families: `true` the six lanes of the left 768 columns, `false` the two lanes of the right 256. -/
@[reducible] def nF : Bool → Nat | true => 6 | false => 2
@[reducible] def wF : Bool → Nat | true => 768 | false => 256
@[reducible] def rows : Fin 4 → Nat | 0 => 512 | 1 => 256 | 2 => 128 | 3 => 64

/-- The halving of a lane that goes along the rows of the mesh. -/
def across (i : Nat) : Halving := if i % 2 = 0 then 0 else 1

/-- The halving a lane makes first (512 rows, then 256), and the one it makes second (128 rows, then 64). -/
def big : (b : Bool) → Fin (nF b) → Halving
  | true, i => across i.val
  | false, _ => 2

def small : (b : Bool) → Fin (nF b) → Halving
  | true, _ => 2
  | false, i => across i.val

/-- A transfer: family, exchange, lane. -/
abbrev Xfer := (b : Bool) × (Fin 4 × Fin (nF b))

/-- The neighbour exchange `k` of lane `i` is with. -/
def along (b : Bool) (k : Fin 4) (i : Fin (nF b)) : Fin 4 :=
  match k with
  | 0 => first (big b i)
  | 1 => second (big b i)
  | 2 => first (small b i)
  | 3 => second (small b i)

def dirn (t : Xfer) : Fin 4 := along t.1 t.2.1 t.2.2

/-- The device the transfer `t` of device `c` goes to (and whose transfer `t` comes to `c`). -/
def peer (t : Xfer) (c : Dev nD) : Dev nD := nbr (dirn t) c

theorem peer_peer (t : Xfer) (c : Dev nD) : peer t (peer t c) = c := nbr_nbr _ c

/-- The number of transfers a device makes before those of a family's exchange. -/
def base : Bool → Fin 4 → Nat
  | false, 0 => 0 | true, 0 => 2 | false, 1 => 8 | true, 1 => 10 | false, 2 => 16 | true, 2 => 18 | true, 3 => 24 | false, 3 => 30

/-- The number of transfers a device makes before `t`. -/
def rank (t : Xfer) : Nat := base t.1 t.2.1 + t.2.2.val

theorem rank_inj : ∀ t t' : Xfer, rank t = rank t' → t = t' := by decide +kernel
theorem rank_lt : ∀ t : Xfer, rank t < 32 := by decide +kernel

/-! ## Where the transfers take place -/

/-- The buffer and semaphores of an exchange of a family. -/
def stageOf : (b : Bool) → (k : Fin 4) → Stage (nF b) (rows k)
  | true, 0 => ⟨Memref.whole cc0_scratch3, Memref.isWhole_whole _, cc0_scratch13, cc0_scratch14⟩
  | true, 1 => ⟨Memref.whole cc0_scratch4, Memref.isWhole_whole _, cc0_scratch15, cc0_scratch16⟩
  | true, 2 => ⟨Memref.whole cc0_scratch6, Memref.isWhole_whole _, cc0_scratch17, cc0_scratch18⟩
  | true, 3 => ⟨Memref.whole cc0_scratch7, Memref.isWhole_whole _, cc0_scratch19, cc0_scratch20⟩
  | false, 0 => ⟨Memref.whole cc0_scratch8, Memref.isWhole_whole _, cc0_scratch21, cc0_scratch22⟩
  | false, 1 => ⟨Memref.whole cc0_scratch9, Memref.isWhole_whole _, cc0_scratch23, cc0_scratch24⟩
  | false, 2 => ⟨Memref.whole cc0_scratch11, Memref.isWhole_whole _, cc0_scratch25, cc0_scratch26⟩
  | false, 3 => ⟨Memref.whole cc0_scratch12, Memref.isWhole_whole _, cc0_scratch27, cc0_scratch28⟩

/-- The partial products and the running sums of a family. -/
def accOf : (b : Bool) → Memref sig .tc .vmem ⟨2, ![1024, wF b]⟩ .f32
  | true => Memref.whole cc0_scratch1
  | false => Memref.whole cc0_scratch2

def runOf : (b : Bool) → Memref sig .tc .vmem ⟨3, ![nF b, 256, 128]⟩ .f32
  | true => Memref.whole cc0_scratch5
  | false => Memref.whole cc0_scratch10

theorem accOf_whole : ∀ b, (accOf b).IsWhole
  | true => Memref.isWhole_whole _
  | false => Memref.isWhole_whole _

theorem runOf_whole : ∀ b, (runOf b).IsWhole
  | true => Memref.isWhole_whole _
  | false => Memref.isWhole_whole _

/-- The buffers of a family. -/
def fam (b : Bool) : Fam (nF b) (wF b) :=
  ⟨accOf b, accOf_whole b, runOf b, runOf_whole b, stageOf b 0, stageOf b 1, stageOf b 2, stageOf b 3⟩

/-- The kernel's buffers, its operands and result at `x`, `w`, `out`. -/
def bufs (x : Memref sig .tc .vmem S1024x64 .f32) (w : Memref sig .tc .vmem S64x1024 .f32)
    (out : Memref sig .tc .vmem S64x1024 .f32) : Bufs :=
  ⟨x, w, out, Memref.whole cc0_scratch0, fam true, fam false⟩

/-- The semaphores a transfer completes on: the sender's and the receiver's. -/
abbrev sndSem (t : Xfer) : DmaSem sig := semAt (stageOf t.1 t.2.1).snd t.2.2
abbrev rcvSem (t : Xfer) : DmaSem sig := semAt (stageOf t.1 t.2.1).rcv t.2.2

theorem sndSem_inj : ∀ t t' : Xfer, sndSem t = sndSem t' → t = t' := by decide +kernel
theorem rcvSem_inj : ∀ t t' : Xfer, rcvSem t = rcvSem t' → t = t' := by decide +kernel
theorem snd_ne_rcv : ∀ t t' : Xfer, sndSem t ≠ rcvSem t' := by decide +kernel

/-! ## The devices and offsets of the body -/

theorem devBar_eq : ∀ (c : Dev nD) (k : Fin 4), devBar c k = nbr k c := by decide +kernel
theorem devA1_eq : ∀ (c : Dev nD) (i : Fin 6), devA1 c i = peer ⟨true, 0, i⟩ c := by decide +kernel
theorem devA2_eq : ∀ (c : Dev nD) (i : Fin 6), devA2 c i = peer ⟨true, 1, i⟩ c := by decide +kernel
theorem devA3_eq : ∀ (c : Dev nD) (i : Fin 6), devA3 c i = peer ⟨true, 2, i⟩ c := by decide +kernel
theorem devA4_eq : ∀ (c : Dev nD) (i : Fin 6), devA4 c i = peer ⟨true, 3, i⟩ c := by decide +kernel
theorem devB1_eq : ∀ (c : Dev nD) (i : Fin 2), devB1 c i = peer ⟨false, 0, i⟩ c := by decide +kernel
theorem devB2_eq : ∀ (c : Dev nD) (i : Fin 2), devB2 c i = peer ⟨false, 1, i⟩ c := by decide +kernel
theorem devB3_eq : ∀ (c : Dev nD) (i : Fin 2), devB3 c i = peer ⟨false, 2, i⟩ c := by decide +kernel
theorem devB4_eq : ∀ (c : Dev nD) (i : Fin 2), devB4 c i = peer ⟨false, 3, i⟩ c := by decide +kernel

/-- A family's exchange is sent after its exchange before has been. -/
theorem rank_before (b : Bool) (i : Fin (nF b)) (k k' : Fin 4) (hk : k'.val = k.val + 1) (j : Fin (nF b)) :
    rank ⟨b, k, i⟩ < base b k' + j.val := by
  revert b k k'
  decide +kernel

theorem offA1a_eq : ∀ (c : Dev nD) (i : Fin 6), offA1a c i = ![lo (big true i) c * 256, 128 * i.val] := by decide +kernel
theorem offA1b_eq : ∀ (c : Dev nD) (i : Fin 6), offA1b c i = ![hi (big true i) c * 256, 128 * i.val] := by decide +kernel
theorem offA2a_eq : ∀ (c : Dev nD) (i : Fin 6), offA2a c i = ![i.val, 1, posMate (big true i) c * 256, 0] := by decide +kernel
theorem offA2b_eq : ∀ (c : Dev nD) (i : Fin 6), offA2b c i = ![mate (big true i) c * 256, 128 * i.val] := by decide +kernel
theorem offA0a_eq : ∀ (c : Dev nD) (i : Fin 6), offA0a c i = ![i.val, 1, posOwn (big true i) c * 256, 0] := by decide +kernel
theorem offA0b_eq : ∀ (c : Dev nD) (i : Fin 6), offA0b c i = ![own (big true i) c * 256, 128 * i.val] := by decide +kernel
theorem offA3a_eq : ∀ (c : Dev nD) (i : Fin 6), offA3a c i = ![i.val, lo (small true i) c * 64, 0] := by decide +kernel
theorem offA3b_eq : ∀ (c : Dev nD) (i : Fin 6), offA3b c i = ![i.val, 1, lo (small true i) c * 64, 0] := by decide +kernel
theorem offA3c_eq : ∀ (c : Dev nD) (i : Fin 6), offA3c c i = ![i.val, hi (small true i) c * 64, 0] := by decide +kernel
theorem offA3d_eq : ∀ (c : Dev nD) (i : Fin 6), offA3d c i = ![i.val, 1, hi (small true i) c * 64, 0] := by decide +kernel
theorem offA4a_eq : ∀ (c : Dev nD) (i : Fin 6), offA4a c i = ![i.val, 1, posMate (small true i) c * 64, 0] := by decide +kernel
theorem offA4b_eq : ∀ (c : Dev nD) (i : Fin 6), offA4b c i = ![i.val, mate (small true i) c * 64, 0] := by decide +kernel
theorem offA5a_eq : ∀ (c : Dev nD) (i : Fin 6), offA5a c i = ![i.val, 1, posOwn (small true i) c * 64, 0] := by decide +kernel
theorem offA5b_eq : ∀ (c : Dev nD) (i : Fin 6), offA5b c i = ![i.val, own (small true i) c * 64, 0] := by decide +kernel

theorem offB1a_eq : ∀ (c : Dev nD) (i : Fin 2), offB1a c i = ![lo (big false i) c * 256, 128 * i.val] := by decide +kernel
theorem offB1b_eq : ∀ (c : Dev nD) (i : Fin 2), offB1b c i = ![hi (big false i) c * 256, 128 * i.val] := by decide +kernel
theorem offB2a_eq : ∀ (c : Dev nD) (i : Fin 2), offB2a c i = ![i.val, 1, posMate (big false i) c * 256, 0] := by decide +kernel
theorem offB2b_eq : ∀ (c : Dev nD) (i : Fin 2), offB2b c i = ![mate (big false i) c * 256, 128 * i.val] := by decide +kernel
theorem offB0a_eq : ∀ (c : Dev nD) (i : Fin 2), offB0a c i = ![i.val, 1, posOwn (big false i) c * 256, 0] := by decide +kernel
theorem offB0b_eq : ∀ (c : Dev nD) (i : Fin 2), offB0b c i = ![own (big false i) c * 256, 128 * i.val] := by decide +kernel
theorem offB3a_eq : ∀ (c : Dev nD) (i : Fin 2), offB3a c i = ![i.val, lo (small false i) c * 64, 0] := by decide +kernel
theorem offB3b_eq : ∀ (c : Dev nD) (i : Fin 2), offB3b c i = ![i.val, 1, lo (small false i) c * 64, 0] := by decide +kernel
theorem offB3c_eq : ∀ (c : Dev nD) (i : Fin 2), offB3c c i = ![i.val, hi (small false i) c * 64, 0] := by decide +kernel
theorem offB3d_eq : ∀ (c : Dev nD) (i : Fin 2), offB3d c i = ![i.val, 1, hi (small false i) c * 64, 0] := by decide +kernel
theorem offB4a_eq : ∀ (c : Dev nD) (i : Fin 2), offB4a c i = ![i.val, 1, posMate (small false i) c * 64, 0] := by decide +kernel
theorem offB4b_eq : ∀ (c : Dev nD) (i : Fin 2), offB4b c i = ![i.val, mate (small false i) c * 64, 0] := by decide +kernel
theorem offB5a_eq : ∀ (c : Dev nD) (i : Fin 2), offB5a c i = ![i.val, 1, posOwn (small false i) c * 64, 0] := by decide +kernel
theorem offB5b_eq : ∀ (c : Dev nD) (i : Fin 2), offB5b c i = ![i.val, own (small false i) c * 64, 0] := by decide +kernel

end Cert.Butterfly
-- ==== Proof.Contents.lean ====
/-
What the buffers hold, as functions of the rows and columns of the operands: the partial products of a device, what each
exchange sends, the running sums, the result.
-/
module

public import proofs.«01_k».proof.Proof.Network

@[expose] public section

noncomputable section

namespace Cert.Butterfly

open Cert.KernelIdeal Cert.KernelIdeal.Gen
open Idealize.ShloMosaic Idealize.SL.Sem

variable {F : FTy → Type} [FloatOps F]

/-- The index with coordinates `f`. -/
def ix (s : Shape) (hs : ∀ a, 0 < s.size a) (f : Fin s.rank → Nat) : s.Idx := fun a => ⟨f a % s.size a, Nat.mod_lt _ (hs a)⟩

/-- The index of row `r` and column `k` among blocks of 256 or 64 rows, as vectors of rank two, three and four. -/
abbrev at4_256 (r k : Nat) : (⟨4, ![1, 1, 256, 128]⟩ : Shape).Idx := ix ⟨4, ![1, 1, 256, 128]⟩ (by decide) ![0, 0, r, k]
abbrev at4_64 (r k : Nat) : (⟨4, ![1, 1, 64, 128]⟩ : Shape).Idx := ix ⟨4, ![1, 1, 64, 128]⟩ (by decide) ![0, 0, r, k]
abbrev at3_256 (r k : Nat) : (⟨3, ![1, 256, 128]⟩ : Shape).Idx := ix ⟨3, ![1, 256, 128]⟩ (by decide) ![0, r, k]
abbrev at2_64 (r k : Nat) : (⟨2, ![64, 128]⟩ : Shape).Idx := ix ⟨2, ![64, 128]⟩ (by decide) ![r, k]

theorem at4_256_self (z : (⟨4, ![1, 1, 256, 128]⟩ : Shape).Idx) : at4_256 (z 2).val (z 3).val = z := by
  funext a; have h0 : (z 0).val < 1 := (z 0).isLt; have h1 : (z 1).val < 1 := (z 1).isLt
  have h2 : (z 2).val < 256 := (z 2).isLt; have h3 : (z 3).val < 128 := (z 3).isLt
  fin_cases a <;> apply Fin.ext <;> simp [at4_256, ix] <;> omega

theorem at4_64_self (z : (⟨4, ![1, 1, 64, 128]⟩ : Shape).Idx) : at4_64 (z 2).val (z 3).val = z := by
  funext a; have h0 : (z 0).val < 1 := (z 0).isLt; have h1 : (z 1).val < 1 := (z 1).isLt
  have h2 : (z 2).val < 64 := (z 2).isLt; have h3 : (z 3).val < 128 := (z 3).isLt
  fin_cases a <;> apply Fin.ext <;> simp [at4_64, ix] <;> omega

theorem at3_256_self (z : (⟨3, ![1, 256, 128]⟩ : Shape).Idx) : at3_256 (z 1).val (z 2).val = z := by
  funext a; have h0 : (z 0).val < 1 := (z 0).isLt
  have h1 : (z 1).val < 256 := (z 1).isLt; have h2 : (z 2).val < 128 := (z 2).isLt
  fin_cases a <;> apply Fin.ext <;> simp [at3_256, ix] <;> omega

theorem at2_self {a b : Nat} (h : ∀ k, 0 < (⟨2, ![a, b]⟩ : Shape).size k) (z : (⟨2, ![a, b]⟩ : Shape).Idx) :
    ix ⟨2, ![a, b]⟩ h ![(z 0).val, (z 1).val] = z := by
  funext k; have h0 : (z 0).val < a := (z 0).isLt; have h1 : (z 1).val < b := (z 1).isLt
  fin_cases k <;> apply Fin.ext <;> simp [ix, Nat.mod_eq_of_lt h0, Nat.mod_eq_of_lt h1]

/-- A block of rows of a two-dimensional function, as a vector of rank two, three or four. -/
def blk2 {e : EltTy} (a b : Nat) (f : Nat → Nat → Elt F e) (r k : Nat) : Vec F ⟨2, ![a, b]⟩ e := fun z => f (r + (z 0).val) (k + (z 1).val)
def blk3 {e : EltTy} (a b : Nat) (f : Nat → Nat → Elt F e) (r : Nat) : Vec F ⟨3, ![1, a, b]⟩ e := fun z => f (r + (z 1).val) (z 2).val
def blk4 {e : EltTy} (a b : Nat) (f : Nat → Nat → Elt F e) (r : Nat) : Vec F ⟨4, ![1, 1, a, b]⟩ e := fun z => f (r + (z 2).val) (z 3).val

/-! ## One lane, from the partial products `slab` of every device -/

section Lane

variable (slab : Dev nD → Nat → Nat → Elt F .f32) (h h' : Halving)

/-- What device `c` sends in the first exchange. -/
def sent1 (c : Dev nD) (r k : Nat) : Elt F .bf16 :=
  if r < 256 then k0_pay4 (blk2 256 128 (slab c) (lo h c * 256) 0) (at4_256 r k)
  else k0_pay4 (blk2 256 128 (slab c) (hi h c * 256) 0) (at4_256 (r - 256) k)

/-- What device `c` sends in the second exchange. -/
def sent2 (c : Dev nD) (r k : Nat) : Elt F .bf16 :=
  k0_pay41 (blk4 256 128 (sent1 slab h (nbr (first h) c)) (posMate h c * 256)) (blk2 256 128 (slab c) (mate h c * 256) 0) (at4_256 r k)

/-- The running sum of device `c` after the first exchange. -/
def run0 (c : Dev nD) (r k : Nat) : Elt F .f32 :=
  k0_pay51 (blk4 256 128 (sent1 slab h (nbr (first h) c)) (posOwn h c * 256)) (blk2 256 128 (slab c) (own h c * 256) 0) (at3_256 r k)

/-- What device `c` sends in the third exchange. -/
def sent3 (c : Dev nD) (r k : Nat) : Elt F .bf16 :=
  if r < 64 then k0_pay60 (blk3 64 128 (run0 slab h c) (lo h' c * 64)) (blk4 64 128 (sent2 slab h (nbr (second h) c)) (lo h' c * 64)) (at4_64 r k)
  else k0_pay60 (blk3 64 128 (run0 slab h c) (hi h' c * 64)) (blk4 64 128 (sent2 slab h (nbr (second h) c)) (hi h' c * 64)) (at4_64 (r - 64) k)

/-- The running sum of device `c` after the second exchange. -/
def run1 (c : Dev nD) (r k : Nat) : Elt F .f32 :=
  k0_pay82 (blk3 256 128 (run0 slab h c) 0) (blk4 256 128 (sent2 slab h (nbr (second h) c)) 0) (at3_256 r k)

/-- What device `c` sends in the fourth exchange. -/
def sent4 (c : Dev nD) (r k : Nat) : Elt F .bf16 :=
  k0_pay91 (k0_pay90 (blk4 64 128 (sent3 slab h h' (nbr (first h') c)) (posMate h' c * 64)) (blk3 64 128 (run1 slab h c) (mate h' c * 64)))
    (at4_64 r k)

/-- The result of device `c`. -/
def res (c : Dev nD) (r k : Nat) : Elt F .f32 :=
  k0_pay102 (blk4 64 128 (sent3 slab h h' (nbr (first h') c)) (posOwn h' c * 64)) (blk3 64 128 (run1 slab h c) (own h' c * 64))
    (blk4 64 128 (sent4 slab h h' (nbr (second h') c)) 0) (at2_64 r k)

theorem sent1_lo (c : Dev nD) (z : (⟨4, ![1, 1, 256, 128]⟩ : Shape).Idx) :
    sent1 slab h c (0 + (z 2).val) (z 3).val = k0_pay4 (blk2 256 128 (slab c) (lo h c * 256) 0) z := by
  have h2 : (z 2).val < 256 := (z 2).isLt
  rw [sent1, Nat.zero_add, if_pos h2, at4_256_self]

theorem sent1_hi (c : Dev nD) (z : (⟨4, ![1, 1, 256, 128]⟩ : Shape).Idx) :
    sent1 slab h c (256 + (z 2).val) (z 3).val = k0_pay4 (blk2 256 128 (slab c) (hi h c * 256) 0) z := by
  rw [sent1, if_neg (by omega), Nat.add_sub_cancel_left, at4_256_self]

theorem sent3_lo (c : Dev nD) (z : (⟨4, ![1, 1, 64, 128]⟩ : Shape).Idx) :
    sent3 slab h h' c (0 + (z 2).val) (z 3).val
      = k0_pay60 (blk3 64 128 (run0 slab h c) (lo h' c * 64)) (blk4 64 128 (sent2 slab h (nbr (second h) c)) (lo h' c * 64)) z := by
  have h2 : (z 2).val < 64 := (z 2).isLt
  rw [sent3, Nat.zero_add, if_pos h2, at4_64_self]

theorem sent3_hi (c : Dev nD) (z : (⟨4, ![1, 1, 64, 128]⟩ : Shape).Idx) :
    sent3 slab h h' c (64 + (z 2).val) (z 3).val
      = k0_pay60 (blk3 64 128 (run0 slab h c) (hi h' c * 64)) (blk4 64 128 (sent2 slab h (nbr (second h) c)) (hi h' c * 64)) z := by
  rw [sent3, if_neg (by omega), Nat.add_sub_cancel_left, at4_64_self]

theorem sent2_all (c : Dev nD) (z : (⟨4, ![1, 1, 256, 128]⟩ : Shape).Idx) :
    sent2 slab h c (0 + (z 2).val) (z 3).val
      = k0_pay41 (blk4 256 128 (sent1 slab h (nbr (first h) c)) (posMate h c * 256)) (blk2 256 128 (slab c) (mate h c * 256) 0) z := by
  rw [sent2, Nat.zero_add, at4_256_self]

theorem run0_all (c : Dev nD) (z : (⟨3, ![1, 256, 128]⟩ : Shape).Idx) :
    run0 slab h c (z 1).val (z 2).val
      = k0_pay51 (blk4 256 128 (sent1 slab h (nbr (first h) c)) (posOwn h c * 256)) (blk2 256 128 (slab c) (own h c * 256) 0) z := by
  rw [run0, at3_256_self]

theorem run1_all (c : Dev nD) (z : (⟨3, ![1, 256, 128]⟩ : Shape).Idx) :
    run1 slab h c (z 1).val (z 2).val
      = k0_pay82 (blk3 256 128 (run0 slab h c) 0) (blk4 256 128 (sent2 slab h (nbr (second h) c)) 0) z := by
  rw [run1, at3_256_self]

theorem sent4_all (c : Dev nD) (z : (⟨4, ![1, 1, 64, 128]⟩ : Shape).Idx) :
    sent4 slab h h' c (0 + (z 2).val) (z 3).val
      = k0_pay91 (k0_pay90 (blk4 64 128 (sent3 slab h h' (nbr (first h') c)) (posMate h' c * 64)) (blk3 64 128 (run1 slab h c) (mate h' c * 64))) z := by
  rw [sent4, Nat.zero_add, at4_64_self]

theorem res_all (c : Dev nD) (z : (⟨2, ![64, 128]⟩ : Shape).Idx) :
    res slab h h' c (z 0).val (z 1).val
      = k0_pay102 (blk4 64 128 (sent3 slab h h' (nbr (first h') c)) (posOwn h' c * 64)) (blk3 64 128 (run1 slab h c) (own h' c * 64))
        (blk4 64 128 (sent4 slab h h' (nbr (second h') c)) 0) z := by
  rw [res, show at2_64 (z 0).val (z 1).val = z from at2_self _ z]

end Lane

/-! ## The partial products, from the operands of every device -/

section Device

variable (x w : Dev nD → Nat → Nat → Elt F .f32)

/-- The rows of `x` in the order the body copies them. -/
def perm (c : Dev nD) (r k : Nat) : Elt F .f32 :=
  k0_pay7 (blk2 64 64 (x c) (64 * (4 * (r / 64 % 4) + r / 64 / 4)) 0) (ix ⟨2, ![64, 64]⟩ (by decide) ![r % 64, k])

/-- The partial products of a family. -/
def prod : Bool → Dev nD → Nat → Nat → Elt F .f32
  | true, c, r, k => k0_pay26 (blk2 512 64 (perm x c) (512 * (r / 512)) 0) (blk2 64 768 (w c) 0 0) (ix ⟨2, ![512, 768]⟩ (by decide) ![r % 512, k])
  | false, c, r, k => k0_pay1 (blk2 1024 64 (x c) 0 0) (blk2 64 256 (w c) 0 768) (ix ⟨2, ![1024, 256]⟩ (by decide) ![r, k])

theorem perm_block (c : Dev nD) (j : Fin 16) (z : (⟨2, ![64, 64]⟩ : Shape).Idx) :
    perm x c (64 * j.val + (z 0).val) (z 1).val = k0_pay7 (blk2 64 64 (x c) (64 * (4 * (j.val % 4) + j.val / 4)) 0) z := by
  have h0 : (z 0).val < 64 := (z 0).isLt
  rw [perm, Nat.mul_add_div (by decide), Nat.mul_add_mod, Nat.div_eq_of_lt h0, Nat.mod_eq_of_lt h0, Nat.add_zero,
    show ix ⟨2, ![64, 64]⟩ (by decide) ![(z 0).val, (z 1).val] = z from at2_self _ z]

theorem prodA_block (c : Dev nD) (j : Fin 2) (z : (⟨2, ![512, 768]⟩ : Shape).Idx) :
    prod x w true c (512 * j.val + (z 0).val) (z 1).val = k0_pay26 (blk2 512 64 (perm x c) (512 * j.val) 0) (blk2 64 768 (w c) 0 0) z := by
  have h0 : (z 0).val < 512 := (z 0).isLt
  rw [prod, Nat.mul_add_div (by decide), Nat.mul_add_mod, Nat.div_eq_of_lt h0, Nat.mod_eq_of_lt h0, Nat.add_zero,
    show ix ⟨2, ![512, 768]⟩ (by decide) ![(z 0).val, (z 1).val] = z from at2_self _ z]

theorem prodB_block (c : Dev nD) (z : (⟨2, ![1024, 256]⟩ : Shape).Idx) :
    prod x w false c (0 + (z 0).val) (z 1).val = k0_pay1 (blk2 1024 64 (x c) 0 0) (blk2 64 256 (w c) 0 768) z := by
  rw [prod, Nat.zero_add, show ix ⟨2, ![1024, 256]⟩ (by decide) ![(z 0).val, (z 1).val] = z from at2_self _ z]

/-- The partial products of a lane. -/
def lane (b : Bool) (i : Fin (nF b)) (c : Dev nD) (r k : Nat) : Elt F .f32 := prod x w b c r (128 * i.val + k)

/-- What device `c` sends in transfer `t`. -/
def cont (t : Xfer) (c : Dev nD) : Nat → Nat → Elt F .bf16 :=
  match t with
  | ⟨b, 0, i⟩ => sent1 (lane x w b i) (big b i) c
  | ⟨b, 1, i⟩ => sent2 (lane x w b i) (big b i) c
  | ⟨b, 2, i⟩ => sent3 (lane x w b i) (big b i) (small b i) c
  | ⟨b, 3, i⟩ => sent4 (lane x w b i) (big b i) (small b i) c

/-- The first column of a lane in the result. -/
def col : (b : Bool) → Fin (nF b) → Nat
  | true, i => 128 * i.val
  | false, i => 768 + 128 * i.val

/-- The result of device `c`. -/
def result (c : Dev nD) (r k : Nat) : Elt F .f32 :=
  if h : k < 768 then res (lane x w true ⟨k / 128, Nat.div_lt_of_lt_mul h⟩) (big true ⟨k / 128, Nat.div_lt_of_lt_mul h⟩)
    (small true ⟨k / 128, Nat.div_lt_of_lt_mul h⟩) c r (k % 128)
  else res (lane x w false ⟨(k - 768) / 128 % 2, Nat.mod_lt _ (by decide)⟩) (big false ⟨(k - 768) / 128 % 2, Nat.mod_lt _ (by decide)⟩)
    (small false ⟨(k - 768) / 128 % 2, Nat.mod_lt _ (by decide)⟩) c r (k % 128)

/-- The result at the columns of a lane. -/
theorem result_col (b : Bool) (i : Fin (nF b)) (c : Dev nD) (r k : Nat) (hk : k < 128) :
    result x w c r (col b i + k) = res (lane x w b i) (big b i) (small b i) c r k := by
  cases b
  · have hi : i.val < 2 := i.isLt
    have h1 : ¬ col false i + k < 768 := by simp only [col]; omega
    have h2 : (⟨(col false i + k - 768) / 128 % 2, Nat.mod_lt _ (by decide)⟩ : Fin (nF false)) = i := by
      apply Fin.ext; simp only [col]; omega
    have h3 : (col false i + k) % 128 = k := by simp only [col]; omega
    rw [result, dif_neg h1, h3, h2]
  · have hi : i.val < 6 := i.isLt
    have h1 : col true i + k < 768 := by simp only [col]; omega
    have h2 : (⟨(col true i + k) / 128, Nat.div_lt_of_lt_mul h1⟩ : Fin (nF true)) = i := by
      apply Fin.ext; simp only [col]; omega
    have h3 : (col true i + k) % 128 = k := by simp only [col]; omega
    rw [result, dif_pos h1, h3, h2]

end Device

end Cert.Butterfly
-- ==== Proof.Values.lean ====
/-
The kernel's vector operations over extended reals, at an index: a change of format is the identity, a product a sum.
-/
module

public import proofs.«01_k».proof.Proof.Contents

public import Idealize.ShloMosaic.Lib.Pointwise

@[expose] public section

noncomputable section

namespace Cert.Butterfly

open Cert.KernelIdeal Cert.KernelIdeal.Gen

open Idealize.ShloMosaic

variable (f g : ℕ → ℕ → EReal)

theorem pay4_at (a : ℕ) (r k : ℕ) (hr : r < 256) (hk : k < 128) :
    k0_pay4 (F := Ideal) (blk2 256 128 f a 0) (at4_256 r k) = f (a + r) k := by
  pointwise [k0_pay4]
  show f (a + r % 256) (0 + k % 128) = _
  rw [Nat.mod_eq_of_lt hr, Nat.mod_eq_of_lt hk, Nat.zero_add]

theorem pay41_at (a b : ℕ) (r k : ℕ) (hr : r < 256) (hk : k < 128) :
    k0_pay41 (F := Ideal) (blk4 256 128 f a) (blk2 256 128 g b 0) (at4_256 r k) = f (a + r) k + g (b + r) k := by
  pointwise [k0_pay41]
  show f (a + r % 256) (k % 128) + g (b + r % 256) (0 + k % 128) = _
  rw [Nat.mod_eq_of_lt hr, Nat.mod_eq_of_lt hk, Nat.zero_add]

theorem pay51_at (a b : ℕ) (r k : ℕ) (hr : r < 256) (hk : k < 128) :
    k0_pay51 (F := Ideal) (blk4 256 128 f a) (blk2 256 128 g b 0) (at3_256 r k) = f (a + r) k + g (b + r) k := by
  pointwise [k0_pay51]
  show f (a + r % 256) (k % 128) + g (b + r % 256) (0 + k % 128) = _
  rw [Nat.mod_eq_of_lt hr, Nat.mod_eq_of_lt hk, Nat.zero_add]

theorem pay60_at (a b : ℕ) (r k : ℕ) (hr : r < 64) (hk : k < 128) :
    k0_pay60 (F := Ideal) (blk3 64 128 f a) (blk4 64 128 g b) (at4_64 r k) = f (a + r) k + g (b + r) k := by
  pointwise [k0_pay60]
  show f (a + r % 64) (k % 128) + g (b + r % 64) (k % 128) = _
  rw [Nat.mod_eq_of_lt hr, Nat.mod_eq_of_lt hk]

theorem pay82_at (a b : ℕ) (r k : ℕ) (hr : r < 256) (hk : k < 128) :
    k0_pay82 (F := Ideal) (blk3 256 128 f a) (blk4 256 128 g b) (at3_256 r k) = f (a + r) k + g (b + r) k := by
  pointwise [k0_pay82]
  show f (a + r % 256) (k % 128) + g (b + r % 256) (k % 128) = _
  rw [Nat.mod_eq_of_lt hr, Nat.mod_eq_of_lt hk]

theorem pay91_at (a b : ℕ) (r k : ℕ) (hr : r < 64) (hk : k < 128) :
    k0_pay91 (F := Ideal) (k0_pay90 (blk4 64 128 f a) (blk3 64 128 g b)) (at4_64 r k) = f (a + r) k + g (b + r) k := by
  pointwise [k0_pay90, k0_pay91]
  show f (a + r % 64) (k % 128) + g (b + r % 64) (k % 128) = _
  rw [Nat.mod_eq_of_lt hr, Nat.mod_eq_of_lt hk]

theorem pay102_at (e : ℕ → ℕ → EReal) (a b d : ℕ) (r k : ℕ) (hr : r < 64) (hk : k < 128) :
    k0_pay102 (F := Ideal) (blk4 64 128 f a) (blk3 64 128 g b) (blk4 64 128 e d) (at2_64 r k) = max (f (a + r) k + g (b + r) k + e (d + r) k) 0 := by
  pointwise [k0_pay102]
  show max (f (a + r % 64) (k % 128) + g (b + r % 64) (k % 128) + e (d + r % 64) (k % 128)) 0 = _
  rw [Nat.mod_eq_of_lt hr, Nat.mod_eq_of_lt hk]

theorem pay7_at (a r k : ℕ) (hr : r < 64) (hk : k < 64) :
    k0_pay7 (F := Ideal) (blk2 64 64 f a 0) (ix ⟨2, ![64, 64]⟩ (by decide) ![r, k]) = f (a + r) k := by
  pointwise [k0_pay7]
  show f (a + r % 64) (0 + k % 64) = _
  rw [Nat.mod_eq_of_lt hr, Nat.mod_eq_of_lt hk, Nat.zero_add]

theorem pay26_at (a r k : ℕ) (hr : r < 512) (hk : k < 768) :
    k0_pay26 (F := Ideal) (blk2 512 64 f a 0) (blk2 64 768 g 0 0) (ix ⟨2, ![512, 768]⟩ (by decide) ![r, k])
      = ∑ l : Fin 64, f (a + r) l.val * g l.val k := by
  pointwise [k0_pay26]
  refine Finset.sum_congr rfl fun l _ => ?_
  show f (a + r % 512) (0 + l.val) * g (0 + l.val) (0 + k % 768) = _
  rw [Nat.mod_eq_of_lt hr, Nat.mod_eq_of_lt hk, Nat.zero_add, Nat.zero_add]

theorem pay1_at (r k : ℕ) (hr : r < 1024) (hk : k < 256) :
    k0_pay1 (F := Ideal) (blk2 1024 64 f 0 0) (blk2 64 256 g 0 768) (ix ⟨2, ![1024, 256]⟩ (by decide) ![r, k])
      = ∑ l : Fin 64, f r l.val * g l.val (768 + k) := by
  pointwise [k0_pay1]
  refine Finset.sum_congr rfl fun l _ => ?_
  show f (0 + r % 1024) (0 + l.val) * g (0 + l.val) (768 + k % 256) = _
  rw [Nat.mod_eq_of_lt hr, Nat.mod_eq_of_lt hk, Nat.zero_add, Nat.zero_add]

end Cert.Butterfly
-- ==== Proof.Sums.lean ====
/-
The result of a device over extended reals: the sum over the sixteen devices of one block of rows of their partial products, and
zero where that is negative.
-/
module

public import proofs.«01_k».proof.Proof.Values

@[expose] public section

noncomputable section

namespace Cert.Butterfly

open Cert.KernelIdeal Cert.KernelIdeal.Gen

open Idealize.ShloMosaic

/-! ## Which blocks meet -/

/-- Of the two blocks a device receives first, one is the block it keeps and the other the block it passes on. -/
theorem block_own : ∀ (h : Halving) (c : Dev nD),
    (posOwn h c = 0 ∧ lo h (nbr (first h) c) = own h c) ∨ (posOwn h c = 1 ∧ hi h (nbr (first h) c) = own h c) := by decide +kernel

theorem block_mate : ∀ (h : Halving) (c : Dev nD),
    (posMate h c = 0 ∧ lo h (nbr (first h) c) = mate h c) ∨ (posMate h c = 1 ∧ hi h (nbr (first h) c) = mate h c) := by decide +kernel

/-- The block the second neighbour passes on is the one the device keeps. -/
theorem mate_second : ∀ (h : Halving) (c : Dev nD), mate h (nbr (second h) c) = own h c := by decide +kernel

/-- A halving across the mesh and one along it. -/
def apart (h h' : Halving) : Bool := h == 2 && h' != 2 || h != 2 && h' == 2

theorem apart_lane (b : Bool) (i : Fin (nF b)) : apart (big b i) (small b i) = true := by revert i; cases b <;> decide +kernel

/-- The neighbours of one halving keep the same block of the other. -/
theorem own_apart : ∀ h h' : Halving, apart h h' = true → ∀ c : Dev nD,
    own h (nbr (first h') c) = own h c ∧ own h (nbr (second h') c) = own h c ∧ own h (nbr (first h') (nbr (second h') c)) = own h c := by
  decide +kernel

/-! ## One halving: a block of four devices' rows -/

section Halve

variable (slab : Dev nD → ℕ → ℕ → EReal) (h h' : Halving)

/-- A function summed over the four devices of a halving. -/
def four (h : Halving) (f : Dev nD → EReal) (c : Dev nD) : EReal :=
  f (nbr (first h) c) + f c + (f (nbr (first h) (nbr (second h) c)) + f (nbr (second h) c))

/-- The row of a function of blocks of `n` rows that a device sends in the first exchange of a halving. -/
theorem pick {n : ℕ} (f g : ℕ → EReal) (c : Dev nD) (p q r : ℕ) (hr : r < n)
    (hp : (p = 0 ∧ lo h (nbr (first h) c) = q) ∨ (p = 1 ∧ hi h (nbr (first h) c) = q))
    (hf : ∀ r < 2 * n, f r = if r < n then g (lo h (nbr (first h) c) * n + r) else g (hi h (nbr (first h) c) * n + (r - n))) :
    f (p * n + r) = g (q * n + r) := by
  rcases hp with ⟨rfl, rfl⟩ | ⟨rfl, rfl⟩
  · rw [hf _ (by omega), Nat.zero_mul, Nat.zero_add, if_pos hr]
  · rw [hf _ (by omega), Nat.one_mul, if_neg (by omega), Nat.add_sub_cancel_left]

theorem sent1_at (c : Dev nD) (k : ℕ) (hk : k < 128) : ∀ r < 2 * 256,
    sent1 (F := Ideal) slab h c r k = if r < 256 then slab c (lo h c * 256 + r) k else slab c (hi h c * 256 + (r - 256)) k := by
  intro r hr
  unfold sent1
  split
  · exact pay4_at _ _ _ _ (by assumption) hk
  · exact pay4_at _ _ _ _ (by omega) hk

theorem sent2_at (c : Dev nD) (r k : ℕ) (hr : r < 256) (hk : k < 128) :
    sent2 (F := Ideal) slab h c r k = slab (nbr (first h) c) (mate h c * 256 + r) k + slab c (mate h c * 256 + r) k := by
  refine (pay41_at _ _ _ _ _ _ hr hk).trans (congrArg (· + _) ?_)
  exact pick h (fun r => sent1 (F := Ideal) slab h (nbr (first h) c) r k) (fun r => slab (nbr (first h) c) r k) c _ _ r hr (block_mate h c) (sent1_at slab h (nbr (first h) c) k hk)

theorem run0_at (c : Dev nD) (r k : ℕ) (hr : r < 256) (hk : k < 128) :
    run0 (F := Ideal) slab h c r k = slab (nbr (first h) c) (own h c * 256 + r) k + slab c (own h c * 256 + r) k := by
  refine (pay51_at _ _ _ _ _ _ hr hk).trans (congrArg (· + _) ?_)
  exact pick h (fun r => sent1 (F := Ideal) slab h (nbr (first h) c) r k) (fun r => slab (nbr (first h) c) r k) c _ _ r hr (block_own h c) (sent1_at slab h (nbr (first h) c) k hk)

/-- The sum of a device after the first halving. -/
def half (c : Dev nD) (r k : ℕ) : EReal := four h (fun d => slab d (own h c * 256 + r) k) c

theorem half_eq (c : Dev nD) (r k : ℕ) (hr : r < 256) (hk : k < 128) :
    run0 (F := Ideal) slab h c r k + sent2 (F := Ideal) slab h (nbr (second h) c) r k = half slab h c r k := by
  rw [run0_at _ _ _ _ _ hr hk, sent2_at _ _ _ _ _ hr hk, mate_second]
  rfl

theorem run1_at (c : Dev nD) (r k : ℕ) (hr : r < 256) (hk : k < 128) : run1 (F := Ideal) slab h c r k = half slab h c r k := by
  refine (pay82_at _ _ _ _ _ _ hr hk).trans ?_
  rw [Nat.zero_add, half_eq _ _ _ _ _ hr hk]

theorem sent3_at (c : Dev nD) (k : ℕ) (hk : k < 128) : ∀ r < 2 * 64,
    sent3 (F := Ideal) slab h h' c r k = if r < 64 then half slab h c (lo h' c * 64 + r) k else half slab h c (hi h' c * 64 + (r - 64)) k := by
  intro r hr
  obtain ⟨-, -, hl, hh, -⟩ := blocks_lt h' c
  unfold sent3
  split
  · exact (pay60_at _ _ _ _ _ _ (by assumption) hk).trans (half_eq _ _ _ _ _ (by omega) hk)
  · exact (pay60_at _ _ _ _ _ _ (by omega) hk).trans (half_eq _ _ _ _ _ (by omega) hk)

theorem sent4_at (c : Dev nD) (r k : ℕ) (hr : r < 64) (hk : k < 128) :
    sent4 (F := Ideal) slab h h' c r k = half slab h (nbr (first h') c) (mate h' c * 64 + r) k + half slab h c (mate h' c * 64 + r) k := by
  obtain ⟨-, hm, -⟩ := blocks_lt h' c
  refine (pay91_at _ _ _ _ _ _ hr hk).trans ?_
  rw [run1_at _ _ _ _ _ (by omega) hk]
  refine congrArg (· + _) ?_
  exact pick h' (fun r => sent3 (F := Ideal) slab h h' (nbr (first h') c) r k) (fun r => half slab h (nbr (first h') c) r k) c _ _ r hr (block_mate h' c) (sent3_at slab h h' (nbr (first h') c) k hk)

theorem res_at (c : Dev nD) (r k : ℕ) (hr : r < 64) (hk : k < 128) :
    res (F := Ideal) slab h h' c r k = max (four h' (fun d => half slab h d (own h' c * 64 + r) k) c) 0 := by
  obtain ⟨ho, -⟩ := blocks_lt h' c
  refine (pay102_at _ _ _ _ _ _ _ _ hr hk).trans ?_
  rw [run1_at _ _ _ _ _ (by omega) hk, Nat.zero_add, sent4_at _ _ _ _ _ _ hr hk, mate_second]
  refine congrArg (fun a => max (a + _ + _) 0) ?_
  exact pick h' (fun r => sent3 (F := Ideal) slab h h' (nbr (first h') c) r k) (fun r => half slab h (nbr (first h') c) r k) c _ _ r hr (block_own h' c) (sent3_at slab h h' (nbr (first h') c) k hk)

end Halve

/-! ## Both halvings: every device -/

/-- The device reached from `c` by some of the four neighbours. -/
def reach (h h' : Halving) (c : Dev nD) (p : (Fin 2 × Fin 2) × (Fin 2 × Fin 2)) : Dev nD :=
  let s (e : Fin 2) (n : Fin 4) (d : Dev nD) : Dev nD := if e = 0 then nbr n d else d
  let t (e : Fin 2) (n : Fin 4) (d : Dev nD) : Dev nD := if e = 0 then d else nbr n d
  s p.2.2 (first h) (t p.2.1 (second h) (s p.1.2 (first h') (t p.1.1 (second h') c)))

theorem reach_all : ∀ h h' : Halving, apart h h' = true → ∀ c : Dev nD, Function.Bijective (reach h h' c) := by decide +kernel

theorem four_four (h h' : Halving) (ha : apart h h' = true) (f : Dev nD → EReal) (c : Dev nD) :
    four h' (four h f) c = ∑ d : Dev nD, f d := by
  rw [← Fintype.sum_bijective _ (reach_all h h' ha c) (fun p => f (reach h h' c p)) f fun _ => rfl]
  simp only [Fintype.sum_prod_type, Fin.sum_univ_two]
  rfl

/-- The result of a device: zero, or the sum over the devices of the rows of its block, whichever is larger. -/
theorem res_sum (slab : Dev nD → ℕ → ℕ → EReal) (h h' : Halving) (ha : apart h h' = true) (c : Dev nD) (r k : ℕ) (hr : r < 64) (hk : k < 128) :
    res (F := Ideal) slab h h' c r k = max (∑ d : Dev nD, slab d (own h c * 256 + (own h' c * 64 + r)) k) 0 := by
  rw [res_at _ _ _ _ _ _ hr hk]
  refine congrArg (max · 0) (Eq.trans ?_ (four_four h h' ha _ c))
  obtain ⟨h1, h2, h3⟩ := own_apart h h' ha c
  unfold four half four
  simp only [h1, h2, h3]

end Cert.Butterfly
-- ==== Proof.Product.lean ====
/-
The result of a device over extended reals, from the operands of every device: the block of rows is the device's own, whichever
way the lanes order them.
-/
module

public import proofs.«01_k».proof.Proof.Sums

@[expose] public section

noncomputable section

namespace Cert.Butterfly

open Cert.KernelIdeal Cert.KernelIdeal.Gen

open Idealize.ShloMosaic

variable (x w : Dev nD → ℕ → ℕ → EReal)

/-- A copied row, by its row in the operand. -/
theorem perm_at (c : Dev nD) (r k : ℕ) (hk : k < 64) :
    perm (F := Ideal) x c r k = x c (64 * (4 * (r / 64 % 4) + r / 64 / 4) + r % 64) k :=
  pay7_at _ _ _ _ (Nat.mod_lt _ (by decide)) hk

/-- The rows of a device's block, where the halvings of a lane leave them. -/
theorem rows_of (b : Bool) (i : Fin (nF b)) (c : Dev nD) :
    4 * own (big b i) c + own (small b i) c = if b then 4 * (c.val % 4) + c.val / 4 else c.val := by
  revert i c; cases b <;> decide +kernel

theorem lane_at (b : Bool) (i : Fin (nF b)) (c d : Dev nD) (r k : ℕ) (hr : r < 64) (hk : k < 128) :
    lane (F := Ideal) x w b i d (own (big b i) c * 256 + (own (small b i) c * 64 + r)) k
      = ∑ l : Fin 64, x d (c.val * 64 + r) l.val * w d l.val (col b i + k) := by
  have hc : c.val < 16 := c.isLt
  have hR := rows_of b i c
  cases b
  · have hi : i.val < 2 := i.isLt
    refine (pay1_at _ _ _ _ (by simp at hR; omega) (by omega)).trans ?_
    rw [show own (big false i) c * 256 + (own (small false i) c * 64 + r) = c.val * 64 + r by simp at hR; omega,
      show 768 + (128 * i.val + k) = col false i + k by simp only [col]; omega]
  · have hi : i.val < 6 := i.isLt
    obtain ⟨R, hRe, hR4⟩ : ∃ R, own (big true i) c * 256 + (own (small true i) c * 64 + r) = R ∧ R = 64 * (4 * (c.val % 4) + c.val / 4) + r :=
      ⟨_, rfl, by simp at hR; omega⟩
    rw [hRe]
    refine (pay26_at _ _ _ _ _ (Nat.mod_lt _ (by decide)) (by omega)).trans (Finset.sum_congr rfl fun l _ => ?_)
    rw [Nat.div_add_mod, perm_at _ _ _ _ l.isLt,
      show 64 * (4 * (R / 64 % 4) + R / 64 / 4) + R % 64 = c.val * 64 + r by omega, show 128 * i.val + k = col true i + k from rfl]

theorem result_at (c : Dev nD) (r k : ℕ) (hr : r < 64) (hk : k < 1024) :
    result (F := Ideal) x w c r k = max (∑ d : Dev nD, ∑ l : Fin 64, x d (c.val * 64 + r) l.val * w d l.val k) 0 := by
  obtain ⟨b, i, j, hj, rfl⟩ : ∃ (b : Bool) (i : Fin (nF b)) (j : ℕ), j < 128 ∧ k = col b i + j := by
    by_cases h : k < 768
    · exact ⟨true, ⟨k / 128, by show _ < 6; omega⟩, k % 128, Nat.mod_lt _ (by decide), by simp only [col]; omega⟩
    · exact ⟨false, ⟨(k - 768) / 128, by show _ < 2; omega⟩, k % 128, Nat.mod_lt _ (by decide), by simp only [col]; omega⟩
  rw [result_col _ _ _ _ _ _ _ hj, res_sum _ _ _ (apart_lane b i) _ _ _ hr hj]
  exact congrArg (max · 0) (Finset.sum_congr rfl fun d _ => lane_at x w b i c d r j hr hj)

end Cert.Butterfly
-- ==== Proof.Memory.lean ====
/-
What a device holds of a buffer: some of its indices and what they read.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the exchanges' (a cell has up to four duties) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Held

variable {s : Shape} {e : EltTy} (c : Dev nD) (M : Memref sig .tc .vmem s e)

/-- Device `c` holds the indices `S` of the buffer `M`, which read `f` there. -/
def held (S : Finset s.Idx) (f : s.Idx → Elt F e) : sProp 𝕄 :=
  iprop(∃ g : Buf (Elt F) (M.view.loc (c : Thread nD τ)), ⌜∀ x ∈ S, M.view.read (Elt F) g x = f x⌝
    ∗ (M.view.loc (c : Thread nD τ) ↦[M.view.setOn S]{fullShare} g))

/-- Device `c` holds the indices `S` of the buffer `M`, whatever they read. -/
def owned (S : Finset s.Idx) : sProp 𝕄 := iprop(∃ f, held c M S f)

instance held_storable (S : Finset s.Idx) (f : s.Idx → Elt F e) : BI.Storable (upEmb : UEmb _ 𝕄) (held c M S f) := by
  unfold held; infer_instance

instance owned_storable (S : Finset s.Idx) : BI.Storable (upEmb : UEmb _ 𝕄) (owned (F := F) c M S) := by
  unfold owned; infer_instance

/-- Elements of the buffer that read `f` are held. -/
theorem held_intro {S : Finset s.Idx} {f : s.Idx → Elt F e} {g : Buf (Elt F) (M.view.loc (c : Thread nD τ))}
    (h : ∀ x ∈ S, M.view.read (Elt F) g x = f x) : (M.view.loc (c : Thread nD τ) ↦[M.view.setOn S]{fullShare} g) ⊢ held c M S f := by
  unfold held
  iintro H
  iexists g
  isplitr
  · ipureintro; exact h
  iexact H

theorem held_owned (S : Finset s.Idx) (f : s.Idx → Elt F e) : held c M S f ⊢ owned (F := F) c M S := by
  unfold owned; iintro H; iexists f; iexact H

theorem held_congr {S : Finset s.Idx} {f f' : s.Idx → Elt F e} (h : ∀ x ∈ S, f x = f' x) : held c M S f ⊢ held c M S f' := by
  unfold held
  iintro ⟨%g, %hg, H⟩
  iexists g
  isplitr
  · ipureintro; exact fun x hx => (hg x hx).trans (h x hx)
  iexact H

/-- What is held at indices that split into parts is held part by part. -/
theorem held_parts {T : Type} [DecidableEq T] [Fintype T] (K : T → Finset s.Idx) (S : Finset s.Idx) (hS : ∀ x, x ∈ S ↔ ∃ t, x ∈ K t)
    (hd : ∀ t t', t ≠ t' → Disjoint (K t) (K t')) (f : s.Idx → Elt F e) :
    held c M S f ⊢ bigSep Finset.univ fun t => held c M (K t) f := by
  have hS' : S = Finset.univ.biUnion K := by ext x; simp [hS]
  have hset : M.view.setOn S = Finset.univ.biUnion fun t => M.view.setOn (K t) := by
    ext i; simp only [hS', View.setOn, Finset.mem_map, Finset.mem_biUnion, Finset.mem_univ, true_and]
    constructor
    · rintro ⟨x, ⟨t, ht⟩, rfl⟩; exact ⟨t, x, ht, rfl⟩
    · rintro ⟨t, x, ht, rfl⟩; exact ⟨x, ⟨t, ht⟩, rfl⟩
  unfold held
  iintro ⟨%g, %hg, H⟩
  have hdis : ∀ t ∈ Finset.univ, ∀ t' ∈ Finset.univ, t ≠ t' → Disjoint (M.view.setOn (K t)) (M.view.setOn (K t')) :=
    fun t _ t' _ h => by unfold View.setOn; exact (Finset.disjoint_map _).mpr (hd t t' h)
  have hsp : (M.view.loc (c : Thread nD τ) ↦[M.view.setOn S]{fullShare} g : sProp 𝕄)
      ⊢ bigSep Finset.univ fun t => (M.view.loc (c : Thread nD τ) ↦[M.view.setOn (K t)]{fullShare} g) := by
    rw [hset]; exact Entails.of_eq (pointsTo_biUnion Finset.univ _ hdis)
  have hm : (bigSep Finset.univ fun t => (M.view.loc (c : Thread nD τ) ↦[M.view.setOn (K t)]{fullShare} g : sProp 𝕄))
      ⊢ bigSep Finset.univ fun t => held c M (K t) f :=
    bigSep_mono fun t _ => held_intro c M fun x hx => hg x ((hS x).mpr ⟨t, hx⟩)
  iapply (hsp.trans hm) $$ H

/-- and what is held part by part is held at all the indices. -/
theorem held_whole {T : Type} [DecidableEq T] [Fintype T] (K : T → Finset s.Idx) (S : Finset s.Idx) (hS : ∀ x, x ∈ S ↔ ∃ t, x ∈ K t)
    (hd : ∀ t t', t ≠ t' → Disjoint (K t) (K t')) (f : s.Idx → Elt F e) [Inhabited (Buf (Elt F) (M.view.loc (c : Thread nD τ)))] :
    bigSep Finset.univ (fun t => held c M (K t) f) ⊢ held c M S f := by
  have hS' : S = Finset.univ.biUnion K := by ext x; simp [hS]
  have hset : M.view.setOn S = Finset.univ.biUnion fun t => M.view.setOn (K t) := by
    ext i; simp only [hS', View.setOn, Finset.mem_map, Finset.mem_biUnion, Finset.mem_univ, true_and]
    constructor
    · rintro ⟨x, ⟨t, ht⟩, rfl⟩; exact ⟨t, x, ht, rfl⟩
    · rintro ⟨t, x, ht, rfl⟩; exact ⟨x, ⟨t, ht⟩, rfl⟩
  have hdis : ∀ t ∈ Finset.univ, ∀ t' ∈ Finset.univ, t ≠ t' → Disjoint (M.view.setOn (K t)) (M.view.setOn (K t')) :=
    fun t _ t' _ h => by unfold View.setOn; exact (Finset.disjoint_map _).mpr (hd t t' h)
  unfold held
  iintro H
  ihave H := (bigSep_exists_pi Finset.univ _) $$ H
  icases H with ⟨%gs, H⟩
  ihave H := (bigSep_pure_sep Finset.univ _ _) $$ H
  icases H with ⟨%hp, H⟩
  ihave H := (pointsTo_biUnion_join Finset.univ (fun t => M.view.setOn (K t)) gs default hdis) $$ H
  icases H with ⟨%g, %hg, H⟩
  iexists g
  isplitr
  · ipureintro
    intro x hx
    obtain ⟨t, ht⟩ := (hS x).mp hx
    rw [← hp t (Finset.mem_univ t) x ht, View.read_apply, View.read_apply,
      hg t (Finset.mem_univ t) (M.view.emb x) ((View.mem_setOn _).mpr ht)]
  rw [hset]
  iexact H

theorem rect_set_sub {r : Rect s} {S : Finset s.Idx} (h : ∀ z, r.emb z ∈ S) : r.set ⊆ S := by
  rw [← Rect.map_emb_univ]
  intro x hx
  obtain ⟨z, -, rfl⟩ := Finset.mem_map.mp hx
  exact h z

/-- A load of held indices returns what they read. -/
theorem held_load {off size : Fin s.rank → Nat} {inb : ∀ a, off a + size a ≤ s.size a} {h : 0 < (⟨s.rank, size⟩ : Shape).numel}
    {S : Finset s.Idx} {f : s.Idx → Elt F e} (hS : ∀ z, (Rect.unit off size inb).emb z ∈ S) {α : Type}
    {k : Vec F ⟨s.rank, size⟩ e → Prog (TpuEff nD τ sig (Elt F) Λ₀ .tc) α} {Q : α → sProp 𝕄} :
    held c M S f ⊢ iprop((held c M S f -∗ wpc c (k fun z => f ((Rect.unit off size inb).emb z)) Q)
      -∗ wpc c (loadAt M off size inb h >>= k) Q) := by
  unfold held
  simp only [loadAt, Prog.lift, Prog.bind_op, Prog.bind_ret]
  iintro ⟨%g, %hg, H⟩ Hk
  iapply (wp_load 𝒱₀ (c : Thread nD τ) none Set.univ (m := M) (S := M.view.setOn S) (Finset.map_subset_map.mpr (rect_set_sub hS))) $$ H
  iintro H
  have e : (M.view.readAt (Elt F) (Rect.unit off size inb).toLoadRect g) = fun z => f ((Rect.unit off size inb).emb z) :=
    funext fun z => hg _ (hS z)
  rw [e]
  iapply Hk
  iexists g
  isplitr
  · ipureintro; exact hg
  iexact H

/-- A store into held indices: they read the stored values at the rectangle and what they read before elsewhere. -/
theorem held_storeOp {r : Rect s} {w : r.shape.Idx → Elt F e} {hx hm} {S : Finset s.Idx} {f f' : s.Idx → Elt F e}
    (hS : ∀ z, r.emb z ∈ S) (hin : ∀ z, f' (r.emb z) = w z) (hout : ∀ x ∈ S, x ∉ r.set → f' x = f x)
    {α : Type} {k : PUnit → Prog (TpuEff nD τ sig (Elt F) Λ₀ .tc) α} {Q : α → sProp 𝕄} :
    held c M S f ⊢ iprop((held c M S f' -∗ wpc c (k ⟨⟩) Q)
      -∗ wpc c (.op (.store M r w Finset.univ hx hm) k) Q) := by
  unfold held
  iintro ⟨%g, %hg, H⟩ Hk
  iapply (wp_store 𝒱₀ (c : Thread nD τ) none Set.univ (m := M) (r := r) (Mk := Finset.univ) (S := M.view.setOn S) (by
    rw [View.setOn_univ, View.set_slice]; exact Finset.map_subset_map.mpr (rect_set_sub hS))) $$ H
  iintro H
  iapply Hk
  iexists ((M.access r).write (Elt F) g w Finset.univ)
  isplitr
  · ipureintro
    intro x hx
    by_cases hr : x ∈ r.set
    · rw [← Rect.map_emb_univ] at hr
      obtain ⟨z, -, rfl⟩ := Finset.mem_map.mp hr
      rw [hin]
      exact View.read_slice_write_emb (v := M.view) r g w (Finset.mem_univ z)
    · rw [hout x hx hr, ← hg x hx]
      exact View.read_slice_write_of_not_mem (v := M.view) r g w _ (by rw [Rect.map_emb_univ]; exact hr)
  iexact H

end Held

end Cert.Butterfly
-- ==== Proof.Schedule.lean ====
/-
The exchange protocol: the semaphores, what each hand-over carries, what a device owes, the order of the waits.
-/
module

public import proofs.«01_k».proof.Proof.Memory
public import proofs.«01_k».proof.Proof.Contents

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The semaphores of a device: the barrier's (`none`), and two per transfer: sent (`false`) and received (`true`). -/
abbrev Sm := Option (Xfer × Bool)

@[reducible] def csem : Sm → SemLoc sig
  | none => .reg barSem
  | some (t, false) => .dma (sndSem t)
  | some (t, true) => .dma (rcvSem t)

theorem csem_inj : Function.Injective csem := by
  rintro (_ | ⟨t, _ | _⟩) (_ | ⟨t', _ | _⟩) h <;> simp only [csem, reduceCtorEq, SemLoc.dma.injEq] at h
  · rfl
  · rw [sndSem_inj _ _ h]
  · exact absurd h (snd_ne_rcv _ _)
  · exact absurd h.symm (snd_ne_rcv _ _)
  · rw [rcvSem_inj _ _ h]

/-- The semaphore at a location, if it is one of these. -/
def decode (s : SemLoc sig) : Option Sm := by
  classical exact if h : ∃ k, csem k = s then some h.choose else none

theorem decode_csem (k : Sm) : decode (csem k) = some k := by
  classical
  unfold decode
  have h : ∃ k', csem k' = csem k := ⟨k, rfl⟩
  rw [dif_pos h, csem_inj h.choose_spec]

theorem decode_none (s : SemLoc sig) (h : ∀ k, csem k ≠ s) : decode s = none := by
  classical
  unfold decode; rw [dif_neg (fun ⟨k, hk⟩ => h k hk)]

abbrev cell (c : Dev nD) (k : Sm) : GSem nD τ sig := ((c : Thread nD τ), csem k)
abbrev barCell (c : Dev nD) : GSem nD τ sig := cell c none
abbrev sndCell (c : Dev nD) (t : Xfer) : GSem nD τ sig := cell c (some (t, false))
abbrev rcvCell (c : Dev nD) (t : Xfer) : GSem nD τ sig := cell c (some (t, true))

theorem cell_inj {c c' : Dev nD} {k k' : Sm} (h : cell c k = cell c' k') : c = c' ∧ k = k' := by
  rw [Prod.mk.injEq] at h
  exact ⟨(Prod.mk.inj h.1).1, csem_inj h.2⟩

/-! ## The halves of the lanes -/

/-- The units a transfer credits its semaphores with. -/
def units (t : Xfer) : ℕ := ((stageOf t.1 t.2.1).half t.2.2 1).view.dmaCredit

theorem units_pos (t : Xfer) : 0 < units t := by
  obtain ⟨b, k, i⟩ := t
  refine View.dmaCredit_pos _ ?_
  have : 0 < rows k := by fin_cases k <;> decide
  simp [Shape.numel, Fin.prod_univ_succ]; exact this

/-- The elements of half `h` of the lane of `t`. -/
def elems (t : Xfer) (h : Fin 2) : Finset (⟨4, ![nF t.1, 2, rows t.2.1, 128]⟩ : Shape).Idx :=
  (halfRect (nF t.1) (rows t.2.1) t.2.2 h).set

/-- Device `c` holds half `h` of the lane of `t`, reading `v` at its rows and columns. -/
def slot (c : Dev nD) (t : Xfer) (h : Fin 2) (v : ℕ → ℕ → Elt F .bf16) : sProp 𝕄 :=
  held c (stageOf t.1 t.2.1).buf (elems t h) fun x => v (x 2).val (x 3).val

/-- Device `c` holds half `h` of the lane of `t`. -/
def slotAny (c : Dev nD) (t : Xfer) (h : Fin 2) : sProp 𝕄 := owned c (stageOf t.1 t.2.1).buf (elems t h)

instance slot_storable (c : Dev nD) (t : Xfer) (h : Fin 2) (v : ℕ → ℕ → Elt F .bf16) :
    BI.Storable (upEmb : UEmb _ 𝕄) (slot c t h v) := by unfold slot; infer_instance
instance slotAny_storable (c : Dev nD) (t : Xfer) (h : Fin 2) :
    BI.Storable (upEmb : UEmb _ 𝕄) (slotAny (F := F) c t h) := by unfold slotAny; infer_instance

/-! ## The schedule -/

variable (x w : Dev nD → ℕ → ℕ → Elt F .f32)

def dutiesOf : Sm → Finset (Fin 4)
  | none => Finset.univ
  | some _ => {0}

def unitsOf : Sm → ℕ
  | none => 1
  | some (t, _) => units t

theorem unitsOf_pos : ∀ k, 0 < unitsOf k
  | none => Nat.one_pos
  | some (t, _) => units_pos t

/-- What device `c` is handed: by the signal of its neighbour `d`, that neighbour's second halves of the lanes `c` sends
to it; by a transfer sent, its first half back; by a transfer received, its second half with what the peer sent. -/
def payOf (c : Dev nD) : Sm → Fin 4 → sProp 𝕄
  | none, d => bigSep (Finset.univ.filter fun t => dirn t = d) fun t => slotAny (nbr d c) t 1
  | some (t, false), _ => slot c t 0 (cont x w t c)
  | some (t, true), _ => slot c t 1 (cont x w t (peer t c))

instance payOf_storable (c : Dev nD) (k : Sm) (d : Fin 4) : BI.Storable (upEmb : UEmb _ 𝕄) (payOf x w c k d) := by
  rcases k with _ | ⟨t, _ | _⟩ <;> unfold payOf <;> infer_instance

theorem payOf_bar (c : Dev nD) (d : Fin 4) :
    payOf x w c none d = bigSep (Finset.univ.filter fun t => dirn t = d) fun t => slotAny (nbr d c) t 1 := rfl
theorem payOf_snd (c : Dev nD) (t : Xfer) (d : Fin 4) : payOf x w c (some (t, false)) d = slot c t 0 (cont x w t c) := rfl
theorem payOf_rcv (c : Dev nD) (t : Xfer) (d : Fin 4) : payOf x w c (some (t, true)) d = slot c t 1 (cont x w t (peer t c)) := rfl

/-- One round: the barrier's four duties of one unit, one from each neighbour; each transfer's one duty. -/
def sched : Rounds.Schedule (GSem nD τ sig) (Fin 4) 𝕄 where
  duties g r := if r = 0 ∧ g.1.2 = .tc then (match decode g.2 with | some k => dutiesOf k | none => ∅) else ∅
  unitless _ := False
  amount g _ _ := match decode g.2 with | some k => unitsOf k | none => 1
  payload g _ d := match decode g.2 with | some k => payOf x w g.1.1 k d | none => iprop(emp)
  amount_pos g _ _ _ := by
    show 0 < (match decode g.2 with | some k => unitsOf k | none => 1)
    split
    · exact unitsOf_pos _
    · exact Nat.one_pos

instance sched_payload_storable (g : GSem nD τ sig) (r : ℕ) (d : Fin 4) :
    BI.Storable (upEmb : UEmb _ 𝕄) ((sched (F := F) x w).payload g r d) := by
  show BI.Storable upEmb (match decode g.2 with | some k => payOf x w g.1.1 k d | none => iprop(emp))
  split <;> infer_instance

section Facts

variable (c : Dev nD) (k : Sm)

theorem duties_eq : (sched (F := F) x w).duties (cell c k) 0 = dutiesOf k := by
  show (if (0 = 0 ∧ ((c : Thread nD τ)).2 = .tc) then (match decode (csem k) with | some k => dutiesOf k | none => ∅) else ∅) = _
  rw [if_pos ⟨rfl, rfl⟩, decode_csem]

theorem duties_later (g : GSem nD τ sig) : ∀ r, 1 ≤ r → (sched (F := F) x w).duties g r = ∅ :=
  fun r hr => by dsimp only [sched]; rw [if_neg fun h => by omega]

theorem amount_eq (d : Fin 4) : (sched (F := F) x w).amount (cell c k) 0 d = unitsOf k := by
  show (match decode (csem k) with | some k => unitsOf k | none => 1) = _
  rw [decode_csem]

theorem payload_eq (d : Fin 4) : (sched (F := F) x w).payload (cell c k) 0 d = payOf x w c k d := by
  show (match decode (csem k) with | some k => payOf x w c k d | none => iprop(emp)) = _
  rw [decode_csem]

theorem expect_bar : (sched (F := F) x w).expect (barCell c) 0 = 4 := by
  unfold Schedule.expect Schedule.amountOf
  rw [duties_eq, Finset.sum_congr rfl fun d _ => amount_eq x w c none d]
  decide

theorem expect_xfer (t : Xfer) (b : Bool) : (sched (F := F) x w).expect (cell c (some (t, b))) 0 = units t := by
  unfold Schedule.expect Schedule.amountOf
  rw [duties_eq, dutiesOf, Finset.sum_singleton, amount_eq, unitsOf]

/-- What the transfers' waits collect. -/
theorem rest_xfer (t : Xfer) (b : Bool) :
    bigSep ((sched (F := F) x w).duties (cell c (some (t, b))) 0 \ ∅) (fun d => (sched (F := F) x w).payload (cell c (some (t, b))) 0 d)
      = payOf x w c (some (t, b)) 0 := by
  rw [Finset.sdiff_empty, duties_eq, dutiesOf, bigSep_singleton, payload_eq]

/-- What the barrier's wait collects: of every transfer, the second half of its lane at the peer. -/
theorem rest_bar :
    bigSep ((sched (F := F) x w).duties (barCell c) 0 \ ∅) (fun d => (sched (F := F) x w).payload (barCell c) 0 d)
      ⊢ bigSep Finset.univ fun t => slotAny (F := F) (peer t c) t 1 := by
  rw [Finset.sdiff_empty, duties_eq, dutiesOf]
  have h : (Finset.univ : Finset Xfer) = Finset.univ.biUnion fun d : Fin 4 => Finset.univ.filter fun t => dirn t = d := by
    ext t; simp
  rw [h]
  refine (Entails.of_eq (bigSep_congr fun d _ => ?_)).trans
    (bigSep_biUnion Finset.univ (fun d : Fin 4 => Finset.univ.filter fun t => dirn t = d) (Φ := fun t => slotAny (F := F) (peer t c) t 1))
  rw [payload_eq]
  exact bigSep_congr fun t ht => by rw [peer, (Finset.mem_filter.mp ht).2]

end Facts

/-! ## What a device owes -/

/-- What the transfer `t` of device `c` owes its peer. -/
def owe (c : Dev nD) (t : Xfer) : CellTallies nD τ sig Unit := tallyAt (rcvCell (peer t c) t) () (units t)

/-- What device `c` owes before its transfer of rank `j`. -/
def owedFrom (c : Dev nD) (j : ℕ) : CellTallies nD τ sig Unit := ∑ t ∈ Finset.univ.filter (fun t => j ≤ rank t), owe c t

theorem owedFrom_rank (c : Dev nD) (t : Xfer) : owedFrom c (rank t) = owedFrom c (rank t + 1) + owe c t := by
  unfold owedFrom
  have h : (Finset.univ.filter fun t' => rank t ≤ rank t') = insert t (Finset.univ.filter fun t' => rank t + 1 ≤ rank t') := by
    ext t'
    simp only [Finset.mem_filter, Finset.mem_univ, true_and, Finset.mem_insert]
    constructor
    · intro h
      rcases Nat.eq_or_lt_of_le h with h | h
      · exact .inl (rank_inj _ _ h.symm)
      · exact .inr h
    · rintro (rfl | h)
      · exact le_rfl
      · omega
  rw [h, Finset.sum_insert (by simp), add_comm]

theorem owedFrom_end (c : Dev nD) : owedFrom c 32 = 0 := by
  unfold owedFrom
  rw [Finset.filter_false_of_mem (fun t _ => by have := rank_lt t; omega), Finset.sum_empty]

/-- What device `c` owes the barriers of its neighbours, `j` of them signalled. -/
def owedBar (c : Dev nD) (d : Fin 4) : CellTallies nD τ sig Unit := tallyAt (barCell (nbr d c)) () 1

/-- What device `c` owes at the start. -/
def O₀ (c : Dev nD) : CellTallies nD τ sig Unit := owedFrom c 0 + owedBar c 3 + owedBar c 2 + owedBar c 1 + owedBar c 0

def L (g : GSem nD τ sig) : Finset Unit := if g.1.2 = .tc then {()} else ∅

def levelOf : Sm → ℕ
  | none => 1
  | some (t, true) => 2 + rank t
  | some (_, false) => 0

/-- The barrier comes first, then the receipts in the order of their transfers. -/
def lv (g : GSem nD τ sig) (_ : Unit) : ℕ := match decode g.2 with | some k => levelOf k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Sm) (u : Unit) : lv (cell c k) u = levelOf k := by
  show (match decode (csem k) with | some k => levelOf k | none => 0) = _
  rw [decode_csem]

theorem owe_pos {c : Dev nD} {t : Xfer} {g : GSem nD τ sig} {u : Unit} (h : 0 < owe c t g u) : g = rcvCell (peer t c) t := by
  unfold owe at h
  rw [tallyAt_apply] at h
  by_contra hn
  rw [if_neg (fun h' => hn h'.1)] at h
  exact Nat.lt_irrefl 0 h

theorem owedFrom_pos {c : Dev nD} {j : ℕ} {g : GSem nD τ sig} {u : Unit} (h : 0 < owedFrom c j g u) :
    ∃ t, j ≤ rank t ∧ g = rcvCell (peer t c) t := by
  unfold owedFrom at h
  rw [Finset.sum_apply, Finsupp.finset_sum_apply] at h
  obtain ⟨t, ht, hp⟩ := Finset.exists_ne_zero_of_sum_ne_zero (Nat.pos_iff_ne_zero.mp h)
  exact ⟨t, (Finset.mem_filter.mp ht).2, owe_pos (Nat.pos_iff_ne_zero.mpr hp)⟩

theorem owedBar_pos {c : Dev nD} {d : Fin 4} {g : GSem nD τ sig} {u : Unit} (h : 0 < owedBar c d g u) : g = barCell (nbr d c) := by
  unfold owedBar at h
  rw [tallyAt_apply] at h
  by_contra hn
  rw [if_neg (fun h' => hn h'.1)] at h
  exact Nat.lt_irrefl 0 h

theorem O₀_pos {c : Dev nD} {g : GSem nD τ sig} {u : Unit} (h : 0 < O₀ c g u) :
    (∃ t, g = rcvCell (peer t c) t) ∨ ∃ d, g = barCell (nbr d c) := by
  unfold O₀ at h
  simp only [Pi.add_apply, Finsupp.add_apply] at h
  by_cases h0 : 0 < owedFrom c 0 g u
  · obtain ⟨t, -, rfl⟩ := owedFrom_pos h0; exact .inl ⟨t, rfl⟩
  by_cases h1 : 0 < owedBar c 0 g u; · exact .inr ⟨0, owedBar_pos h1⟩
  by_cases h2 : 0 < owedBar c 1 g u; · exact .inr ⟨1, owedBar_pos h2⟩
  by_cases h3 : 0 < owedBar c 2 g u; · exact .inr ⟨2, owedBar_pos h3⟩
  refine .inr ⟨3, owedBar_pos (u := u) ?_⟩
  simp only [Nat.pos_iff_ne_zero, not_not] at h h0 h1 h2 h3 ⊢
  simpa [h0, h1, h2, h3] using h

/-- The order of the waits, as every device knows it. -/
def order : sProp 𝕄 := levAts L lv

instance order_persistent : BI.Persistent (order (F := F)) := by unfold order; infer_instance

/-- A receipt may be waited for while only later transfers are owed. -/
theorem mayWait_rcv (c : Dev nD) (t : Xfer) (j : ℕ) (hj : rank t < j) :
    order (F := F) ⊢ MayWait (c : Thread nD τ) (csem (some (t, true))) () (owedFrom c j) :=
  show (levAts L lv : sProp 𝕄) ⊢ _ from MayOwe.of_cut (L := L) (lev := lv) (2 + rank t) (fun p hp => by rw [Finset.mem_singleton.mp hp, L_tc]; exact Finset.mem_singleton_self _)
    (fun g u hg => by obtain ⟨t', -, rfl⟩ := owedFrom_pos hg; exact Finset.mem_singleton_self _)
    (fun p hp => by rw [Finset.mem_singleton.mp hp]; exact le_of_eq (lv_cell c (some (t, true)) _))
    (fun g u hg => by
      obtain ⟨t', ht', rfl⟩ := owedFrom_pos hg
      rw [lv_cell]; simp only [levelOf]; omega)

/-- The barrier may be waited for while all the transfers are owed. -/
theorem mayWait_bar (c : Dev nD) : order (F := F) ⊢ MayWait (c : Thread nD τ) (csem none) () (owedFrom c 0) :=
  show (levAts L lv : sProp 𝕄) ⊢ _ from MayOwe.of_cut (L := L) (lev := lv) 1 (fun p hp => by rw [Finset.mem_singleton.mp hp, L_tc]; exact Finset.mem_singleton_self _)
    (fun g u hg => by obtain ⟨t', -, rfl⟩ := owedFrom_pos hg; exact Finset.mem_singleton_self _)
    (fun p hp => by rw [Finset.mem_singleton.mp hp]; exact le_of_eq (lv_cell c none _))
    (fun g u hg => by
      obtain ⟨t', ht', rfl⟩ := owedFrom_pos hg
      rw [lv_cell]; simp only [levelOf]; omega)

/-- Any other semaphore may be waited for at the start and at the end. -/
theorem mayWait_stage (c : Dev nD) (q : DmaSem sig) (hq : decode (.dma q) = none) (O : CellTallies nD τ sig Unit) (hO : O = O₀ c ∨ O = 0) :
    order (F := F) ⊢ MayWait (c : Thread nD τ) (.dma q) () O := by
  rcases hO with rfl | rfl
  · refine show (levAts L lv : sProp 𝕄) ⊢ _ from MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; dsimp only [lv]; rw [hq])
      (fun g u hg => by
        rcases O₀_pos hg with ⟨t, rfl⟩ | ⟨d, rfl⟩ <;> rw [lv_cell] <;> simp only [levelOf] <;> omega)
  · rw [MayWait_zero]; iintro -; iempintro

end Cert.Butterfly
-- ==== Proof.Exchange.lean ====
/-
The steps of an exchange, once for every transfer: the signals and the barrier's wait, a send, the wait for what a peer
sent, the wait for one's own send.
-/
module

public import proofs.«01_k».proof.Proof.Schedule

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x w : Dev nD → ℕ → ℕ → Elt F .f32) (K : Dev nD × Sm → ℕ)

/-! ## What a device knows and holds -/

/-- What every device knows: the invariants of all the semaphores, that each is at its round, and the order of the waits. -/
def env : sProp 𝕄 :=
  iprop((bigSep Finset.univ fun ck : Dev nD × Sm => iprop(cellInv ER (sched (F := F) x w) (K ck) (cell ck.1 ck.2) ∗ reached ER (cell ck.1 ck.2) 0))
    ∗ order)

instance env_persistent : BI.Persistent (env (F := F) x w K) := by unfold env; infer_instance

theorem env_cell (c : Dev nD) (k : Sm) :
    env (F := F) x w K ⊢ iprop(cellInv ER (sched (F := F) x w) (K (c, k)) (cell c k) ∗ reached ER (cell c k) 0) := by
  have h : (bigSep Finset.univ fun ck : Dev nD × Sm => iprop(cellInv ER (sched (F := F) x w) (K ck) (cell ck.1 ck.2) ∗ reached ER (cell ck.1 ck.2) 0))
      ⊢ iprop(cellInv ER (sched (F := F) x w) (K (c, k)) (cell c k) ∗ reached ER (cell c k) 0) := bigSep_elim (Finset.mem_univ (c, k))
  unfold env
  iintro ⟨H, -⟩
  iapply h $$ H

theorem env_rcv (c : Dev nD) (t : Xfer) (j : ℕ) (hj : rank t < j) :
    env (F := F) x w K ⊢ MayWait (c : Thread nD τ) (csem (some (t, true))) () (owedFrom c j) := by
  unfold env; iintro ⟨-, H⟩; iapply (mayWait_rcv c t j hj) $$ H

theorem env_bar (c : Dev nD) : env (F := F) x w K ⊢ MayWait (c : Thread nD τ) (csem none) () (owedFrom c 0) := by
  unfold env; iintro ⟨-, H⟩; iapply (mayWait_bar c) $$ H

/-- A device owes its transfers from the rank `j` on. -/
def owing (c : Dev nD) (j : ℕ) : sProp 𝕄 := iprop(∃ W : Waits sig Unit, owes (c : Thread nD τ) (owedFrom c j) W)

/-- The right to make the transfer `t`. -/
def tok (c : Dev nD) (t : Xfer) : sProp 𝕄 :=
  iprop(atPos ER (sndCell c t) 0 ∅ 0 ∗ dutyTok ER (sndCell c t) 0 (0 : Fin 4) ∗ dutyTok ER (rcvCell (peer t c) t) 0 (0 : Fin 4))

/-- A transfer not made yet: the right to make it and both halves it uses. -/
def idle (c : Dev nD) (t : Xfer) : sProp 𝕄 := iprop(slotAny c t 0 ∗ slotAny (peer t c) t 1 ∗ tok c t)

/-- A transfer made. -/
def sent (c : Dev nD) (t : Xfer) : sProp 𝕄 :=
  iprop(atPos ER (sndCell c t) 0 ∅ 0 ∗ cred (tallyAt (sndCell c t) () (units t)))

/-- A transfer to be received. -/
def await (c : Dev nD) (t : Xfer) : sProp 𝕄 :=
  iprop(atPos ER (rcvCell c t) 0 ∅ 0 ∗ cred (tallyAt (rcvCell c t) () (units t)))

/-- A transfer received: what the peer sent. -/
def got (c : Dev nD) (t : Xfer) : sProp 𝕄 := iprop(slot c t 1 (cont x w t (peer t c)) ∗ semVal (rcvCell c t) 0)

/-- A transfer whose sending has ended. -/
def done (c : Dev nD) (t : Xfer) : sProp 𝕄 := iprop(slot c t 0 (cont x w t c) ∗ semVal (sndCell c t) 0)

/-! ## The two halves of a lane as the transfer addresses them -/

section Halves

variable {n R : ℕ} (st : Stage n R) (i : Fin n) (h : Fin 2)

theorem half_set : (st.half i h).view.set = st.buf.view.setOn (halfRect n R i h).set :=
  (View.set_reshape _ _).trans (View.set_slice _ _)

/-- What is written through a half is read, row by row and column by column, in the buffer. -/
theorem half_read_write (g : st.buf.view.ty.Contents (Elt F)) (u : (⟨2, ![R, 128]⟩ : Shape).Idx → Elt F .bf16)
    (z : (⟨4, ![1, 1, R, 128]⟩ : Shape).Idx) :
    st.buf.view.read (Elt F) ((st.half i h).view.write (Elt F) g u Finset.univ) ((halfRect n R i h).emb z)
      = u ((Shape.reshapeEquiv (squeezes_half R).numel_eq).symm z) := by
  have e := View.read_write_of_mem (v := (st.half i h).view) g u (Finset.mem_univ ((Shape.reshapeEquiv (squeezes_half R).numel_eq).symm z))
  rw [← e]
  show _ = st.buf.view.read (Elt F) _ ((halfRect n R i h).emb (Shape.reshapeEquiv (squeezes_half R).numel_eq
    ((Shape.reshapeEquiv (squeezes_half R).numel_eq).symm z)))
  rw [Equiv.apply_symm_apply]

/-- What is read through a half is what the buffer reads there. -/
theorem half_read (g : st.buf.view.ty.Contents (Elt F)) (y : (⟨2, ![R, 128]⟩ : Shape).Idx) :
    (st.half i h).view.read (Elt F) g y
      = st.buf.view.read (Elt F) g ((halfRect n R i h).emb (Shape.reshapeEquiv (squeezes_half R).numel_eq y)) := rfl

theorem half_coord (z : (halfRect n R i h).shape.Idx) : (((halfRect n R i h).emb z) 2).val = (z 2).val ∧ (((halfRect n R i h).emb z) 3).val = (z 3).val := by
  constructor <;> rw [Rect.emb_apply]
  · show 0 + 1 * _ = _; omega
  · show 0 + 1 * _ = _; omega

end Halves

/-! ## The steps -/

section Steps

variable (c : Dev nD) {α : Type} {k : PUnit → Prog (TpuEff nD τ sig (Elt F) Λ₀ .tc) α} {R : α → sProp (MT nD τ sig Unit (Elt F) ℕ UU ℕ)}

/-- The first half, reading what is to be sent, makes the sender's payload. -/
theorem pay_snd (t : Xfer) (g : Buf (Elt F) ((stageOf t.1 t.2.1).buf.view.loc (c : Thread nD τ)))
    (hg : ∀ y ∈ elems t 0, (stageOf t.1 t.2.1).buf.view.read (Elt F) g y = cont x w t c (y 2).val (y 3).val) :
    ((stageOf t.1 t.2.1).buf.view.loc (c : Thread nD τ) ↦[(stageOf t.1 t.2.1).buf.view.setOn (elems t 0)]{fullShare} g)
      ⊢ (sched (F := F) x w).payload (sndCell c t) 0 0 := by
  rw [payload_eq, payOf_snd]
  exact held_intro c (stageOf t.1 t.2.1).buf hg

/-- The second half at the peer, the first half written into it, makes the receiver's payload. -/
theorem pay_rcv (t : Xfer) (g : Buf (Elt F) ((stageOf t.1 t.2.1).buf.view.loc (c : Thread nD τ)))
    (hg : ∀ y ∈ elems t 0, (stageOf t.1 t.2.1).buf.view.read (Elt F) g y = cont x w t c (y 2).val (y 3).val)
    (g' : Buf (Elt F) ((stageOf t.1 t.2.1).buf.view.loc (peer t c : Thread nD τ))) :
    ((stageOf t.1 t.2.1).buf.view.loc (peer t c : Thread nD τ) ↦[(stageOf t.1 t.2.1).buf.view.setOn (elems t 1)]{fullShare}
        (((stageOf t.1 t.2.1).half t.2.2 1).view.write (Elt F) g' (((stageOf t.1 t.2.1).half t.2.2 0).view.read (Elt F) g) Finset.univ))
      ⊢ (sched (F := F) x w).payload (rcvCell (peer t c) t) 0 0 := by
  rw [payload_eq, payOf_rcv]
  refine held_intro (peer t c) (stageOf t.1 t.2.1).buf fun y hy => ?_
  rw [peer_peer]
  obtain ⟨z, -, rfl⟩ := Finset.mem_map.mp (by rw [elems, ← Rect.map_emb_univ] at hy; exact hy)
  rw [half_read_write, half_read, Equiv.apply_symm_apply]
  rw [hg _ (by rw [elems, ← Rect.map_emb_univ]; exact Finset.mem_map_of_mem _ (Finset.mem_univ _))]
  rw [(half_coord t.2.2 1 z).1, (half_coord t.2.2 1 z).2]
  exact congrArg₂ (cont x w t c) (half_coord t.2.2 0 z).1 (half_coord t.2.2 0 z).2

/-- A transfer is made: its first half goes, its second half at the peer will hold what the first holds. -/
theorem wp_xfer (t : Xfer) (d : Dev nD) (hd : d = peer t c) :
    iprop(env x w K ∗ slot c t 0 (cont x w t c) ∗ slotAny (peer t c) t 1 ∗ tok c t ∗ owing (F := F) c (rank t))
      ⊢ iprop(((sent c t ∗ owing (F := F) c (rank t + 1)) -∗ wpc c (k ⟨⟩) R)
        -∗ wpc c ((stageOf t.1 t.2.1).send t.2.2 d >>= k) R) := by
  subst hd
  unfold slot slotAny owned held tok owing sent
  simp only [Stage.send, Prog.lift, Prog.bind_op, Prog.bind_ret]
  iintro ⟨#He, ⟨%gs, %hgs, Hs⟩, ⟨%fd, %gd, %hgd, Hd⟩, ⟨Hat, Hts, Htr⟩, ⟨%W, HO⟩⟩ Hk
  ihave #Hs1 := (env_cell x w K c (some (t, false))) $$ He
  ihave #Hr1 := (env_cell x w K (peer t c) (some (t, true))) $$ He
  icases Hs1 with ⟨HIs, HRs⟩
  icases Hr1 with ⟨HIr, HRr⟩
  have hset0 := half_set (stageOf t.1 t.2.1) t.2.2 0
  have hset1 := half_set (stageOf t.1 t.2.1) t.2.2 1
  iapply (Rounds.wp_send_pointsTo 𝒱₀ ER (sched (F := F) x w) (c : Thread nD τ) none (c' := (peer t c : Thread nD τ))
    (src := (stageOf t.1 t.2.1).half t.2.2 0) (dst := (stageOf t.1 t.2.1).half t.2.2 1)
    (sS := csem (some (t, false))) (sem := csem (some (t, true)))
    (κ₁ := K (c, some (t, false))) (κ₂ := K (peer t c, some (t, true)))
    (r₁ := 0) (r₂ := 0) (d₁ := (0 : Fin 4)) (d₂ := (0 : Fin 4)) (fs := gs) (fd := gd)
    (by rw [duties_eq]; exact Finset.mem_singleton_self _) (by rw [duties_eq]; exact Finset.mem_singleton_self _)
    () () (units t) rfl (amount_eq x w c (some (t, false)) 0) (amount_eq x w (peer t c) (some (t, true)) 0)
    (owedFrom c (rank t + 1)) (owedFrom_rank c t) (W := W)
    (by rw [hset0]; exact pay_snd x w c t gs hgs) (by rw [hset1]; exact pay_rcv x w c t gs hgs gd)) $$ [Hs Hd Hts Htr HO]
  · isplitr; · iexact HIs
    isplitr; · iexact HIr
    isplitl [Hs]; · rw [hset0]; iexact Hs
    isplitl [Hd]; · rw [hset1]; iexact Hd
    isplitl [HO]; · iexact HO
    isplitl [Hts]; · iexact Hts
    isplitr; · iexact HRs
    isplitl [Htr]; · iexact Htr
    iexact HRr
  iintro ⟨Hc, HO⟩
  iapply Hk
  isplitl [Hat Hc]
  · isplitl [Hat] <;> iassumption
  iexists W; iexact HO

/-- The wait for what the peer sent. -/
theorem wp_recv (t : Xfer) (j : ℕ) (hj : rank t < j) :
    iprop(env x w K ∗ await c t ∗ owing (F := F) c j)
      ⊢ iprop(((got x w c t ∗ owing (F := F) c j) -∗ wpc c (k ⟨⟩) R) -∗ wpc c ((stageOf t.1 t.2.1).waitRcv t.2.2 >>= k) R) := by
  unfold await owing got
  simp only [Stage.waitRcv, Prog.lift, Prog.bind_op, Prog.bind_ret]
  iintro ⟨#He, ⟨Hat, Hc⟩, ⟨%W, HO⟩⟩ Hk
  ihave #Hr := (env_cell x w K c (some (t, true))) $$ He
  icases Hr with ⟨HI, -⟩
  iapply (Rounds.wp_wait_rest_token 𝒱₀ ER (sched (F := F) x w) (c : Thread nD τ) none (κ := K (c, some (t, true)))
      (wpE_waitDma2_eq 𝒱₀ (c : Thread nD τ) none Set.univ) (Set.mem_univ _) () (O := owedFrom c j) (W := W) (R := 0) (m := 0) (T := ∅)
      ((Nat.zero_add _).trans (expect_xfer x w c t true).symm)) $$ [Hc HO Hat]
  · isplitr; · iexact HI
    isplitl [Hc]; · iexact Hc
    isplitl [HO]; · iexact HO
    isplitr; · iapply (env_rcv x w K c t j hj); iexact He
    iexact Hat
  iintro ⟨HO, Hat, -, Hpay⟩
  ihave Hp := (Entails.of_eq ((rest_xfer x w c t true).trans (payOf_rcv x w c t 0))) $$ Hpay
  imod (Rounds.cell_close ER (sched (F := F) x w) (Set.mem_univ (K (c, some (t, true)))) (fun h => h) (R := 0 + 1)
    (duties_later x w (rcvCell c t))) $$ [Hat] with Hz
  · isplitr; · iexact HI
    iexact Hat
  iapply Hk
  isplitl [Hp Hz]
  · isplitl [Hp]; · iexact Hp
    iexact Hz
  iexists (insert (csem (some (t, true)), ()) W); iexact HO

/-- The wait for one's own send, nothing owed any more. -/
theorem wp_sent (t : Xfer) :
    iprop(env x w K ∗ sent c t ∗ owing (F := F) c 32)
      ⊢ iprop(((done x w c t ∗ owing (F := F) c 32) -∗ wpc c (k ⟨⟩) R) -∗ wpc c ((stageOf t.1 t.2.1).waitSnd t.2.2 >>= k) R) := by
  unfold sent owing done
  simp only [Stage.waitSnd, Prog.lift, Prog.bind_op, Prog.bind_ret, owedFrom_end]
  iintro ⟨#He, ⟨Hat, Hc⟩, ⟨%W, HO⟩⟩ Hk
  ihave #Hr := (env_cell x w K c (some (t, false))) $$ He
  icases Hr with ⟨HI, -⟩
  iapply (Rounds.wp_wait_rest_token 𝒱₀ ER (sched (F := F) x w) (c : Thread nD τ) none (κ := K (c, some (t, false)))
      (wpE_waitDma2_eq 𝒱₀ (c : Thread nD τ) none Set.univ) (Set.mem_univ _) () (O := 0) (W := W) (R := 0) (m := 0) (T := ∅)
      (by rw [Nat.zero_add]; exact (expect_xfer x w c t false).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_xfer x w c t false).trans (payOf_snd x w c t 0))) $$ Hpay
  imod (Rounds.cell_close ER (sched (F := F) x w) (Set.mem_univ (K (c, some (t, false)))) (fun h => h) (R := 0 + 1)
    (duties_later x w (sndCell c t))) $$ [Hat] with Hz
  · isplitr; · iexact HI
    iexact Hat
  iapply Hk
  isplitl [Hp Hz]
  · isplitl [Hp]; · iexact Hp
    iexact Hz
  iexists (insert (csem (some (t, false)), ()) W); iexact HO

/-- The signal to a neighbour: it is handed the second halves of the lanes it sends. -/
theorem wp_signal_nbr (q : Fin 4) (d : Dev nD) (hd : d = nbr q c) (O : CellTallies nD τ sig Unit) (W : Waits sig Unit) :
    iprop(env x w K ∗ (bigSep (Finset.univ.filter fun t => dirn t = q) fun t => slotAny (F := F) c t 1)
        ∗ dutyTok ER (barCell (nbr q c)) 0 q ∗ owes (c : Thread nD τ) (O + owedBar c q) W)
      ⊢ iprop((owes (c : Thread nD τ) O W -∗ wpc c (k ⟨⟩) R) -∗ wpc c (semSignalWord d barSem 1#32 >>= k) R) := by
  subst hd
  simp only [semSignalWord, Prog.lift, Prog.bind_op, Prog.bind_ret]
  iintro ⟨#He, Hs, Ht, HO⟩ Hk
  ihave #Hr := (env_cell x w K (nbr q c) none) $$ He
  icases Hr with ⟨HI, HR⟩
  iapply (Rounds.wp_signal 𝒱₀ ER (sched (F := F) x w) (c : Thread nD τ) none (dst := (nbr q c : Thread nD τ)) (κ := K (nbr q c, none))
      (d := q) (by rw [show (((nbr q c : Dev nD) : Thread nD τ), SemLoc.reg barSem) = cell (nbr q c) none from rfl, duties_eq]; exact Finset.mem_univ _)
      ((amount_eq x w (nbr q c) none q).trans (by decide)) () O rfl) $$ [HO Ht Hs]
  · isplitr; · iexact HI
    isplitl [HO]; · iexact HO
    isplitl [Ht]; · iexact Ht
    isplitl [Hs]
    · rw [show (((nbr q c : Dev nD) : Thread nD τ), SemLoc.reg barSem) = cell (nbr q c) none from rfl, payload_eq, payOf, nbr_nbr]; iexact Hs
    iexact HR
  iintro HO
  iapply Hk
  iexact HO

/-- The barrier's wait: every lane's second half at the peer. -/
theorem wp_barrier :
    iprop(env x w K ∗ atPos ER (barCell c) 0 ∅ 0 ∗ cred (tallyAt (barCell c) () 4) ∗ owing (F := F) c 0)
      ⊢ iprop(((semVal (barCell c) 0 ∗ owing (F := F) c 0 ∗ bigSep Finset.univ fun t => slotAny (F := F) (peer t c) t 1) -∗ wpc c (k ⟨⟩) R)
        -∗ wpc c (semWaitWord barSem 4#32 >>= k) R) := by
  unfold owing
  simp only [semWaitWord, Prog.lift, Prog.bind_op, Prog.bind_ret]
  iintro ⟨#He, Hat, Hc, ⟨%W, HO⟩⟩ Hk
  ihave #Hr := (env_cell x w K c none) $$ He
  icases Hr with ⟨HI, -⟩
  iapply (Rounds.wp_wait_rest_token 𝒱₀ ER (sched (F := F) x w) (c : Thread nD τ) none (κ := K (c, none))
      (wpE_semWait_eq 𝒱₀ (c : Thread nD τ) none Set.univ) (Set.mem_univ _) () (O := owedFrom c 0) (W := W) (R := 0) (m := 0) (T := ∅)
      (by rw [Nat.zero_add]; exact (expect_bar x w c).symm)) $$ [Hc HO Hat]
  · isplitr; · iexact HI
    isplitl [Hc]; · iexact Hc
    isplitl [HO]; · iexact HO
    isplitr; · iapply (env_bar x w K c); iexact He
    iexact Hat
  iintro ⟨HO, Hat, -, Hpay⟩
  ihave Hp := (rest_bar x w c) $$ Hpay
  imod (Rounds.cell_close ER (sched (F := F) x w) (Set.mem_univ (K (c, none))) (fun h => h) (R := 0 + 1)
    (duties_later x w (barCell c))) $$ [Hat] with Hz
  · isplitr; · iexact HI
    iexact Hat
  iapply Hk
  isplitl [Hz]; · iexact Hz
  isplitl [HO]
  · iexists (insert (csem none, ()) W); iexact HO
  iexact Hp

end Steps

end Cert.Butterfly
-- ==== Proof.Access.lean ====
/-
Programs as steps between what a device holds before and after; loads and stores of the exchange buffers, the partial
products and the running sums as such steps.
-/
module

public import proofs.«01_k».proof.Proof.Exchange

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs as steps -/

section Does

variable (x w : Dev nD → ℕ → ℕ → Elt F .f32) (K : Dev nD × Sm → ℕ) (c : Dev nD)

/-- Run on device `c`, the program `p` takes `P` to `Q`. -/
def Does (p : Code F) (P Q : sProp (MT nD τ sig Unit (Elt F) ℕ UU ℕ)) : Prop :=
  ∀ (α : Type) (k : PUnit → Prog (TpuEff nD τ sig (Elt F) Λ₀ .tc) α) (R : α → sProp (MT nD τ sig Unit (Elt F) ℕ UU ℕ)),
    iprop(env x w K ∗ P) ⊢ iprop((Q -∗ wpc c (k ⟨⟩) R) -∗ wpc c (p >>= k) R)

theorem Does.nil (P : sProp (MT nD τ sig Unit (Elt F) ℕ UU ℕ)) : Does x w K c (inOrder []) P P := by
  intro α k R
  simp only [inOrder, Prog.pure_eq_ret, Prog.bind_ret]
  iintro ⟨-, HP⟩ Hk
  iapply Hk
  iexact HP

variable {x w K c}

theorem Does.cons {p : Code F} {ps : List (Code F)} {P Q S : sProp (MT nD τ sig Unit (Elt F) ℕ UU ℕ)} (h : Does x w K c p P Q)
    (hs : Does x w K c (inOrder ps) Q S) : Does x w K c (inOrder (p :: ps)) P S := by
  intro α k R
  simp only [inOrder, Prog.bind_assoc]
  iintro ⟨#He, HP⟩ Hk
  iapply (h α _ R) $$ [HP]
  · isplitr; · iexact He
    iexact HP
  iintro HQ
  iapply (hs α k R) $$ [HQ]
  · isplitr; · iexact He
    iexact HQ
  iexact Hk

theorem Does.mono {p : Code F} {P P' Q Q' : sProp (MT nD τ sig Unit (Elt F) ℕ UU ℕ)} (h : Does x w K c p P Q) (hP : P' ⊢ P) (hQ : Q ⊢ Q') :
    Does x w K c p P' Q' := by
  intro α k R
  iintro ⟨#He, HP⟩ Hk
  ihave HP := hP $$ HP
  iapply (h α k R) $$ [HP]
  · isplitr; · iexact He
    iexact HP
  iintro HQ
  ihave HQ := hQ $$ HQ
  iapply Hk
  iexact HQ

theorem bigSep_fin_succ {n : ℕ} (Φ : Fin (n + 1) → sProp (MT nD τ sig Unit (Elt F) ℕ UU ℕ)) :
    bigSep Finset.univ Φ = iprop(Φ 0 ∗ bigSep Finset.univ fun i : Fin n => Φ i.succ) := by
  rw [Fin.univ_succ, Finset.cons_eq_insert, bigSep_insert (by simp), bigSep_map]
  rfl

/-- A loop: each of its steps takes its own part of what is held, and what the steps share. -/
theorem Does.loop {n : ℕ} (f : Fin n → Code F) (P Q : Fin n → sProp (MT nD τ sig Unit (Elt F) ℕ UU ℕ))
    (S : ℕ → sProp (MT nD τ sig Unit (Elt F) ℕ UU ℕ)) (h : ∀ i : Fin n, Does x w K c (f i) iprop(P i ∗ S i.val) iprop(Q i ∗ S (i.val + 1))) :
    Does x w K c (inOrder (List.ofFn f)) iprop(bigSep Finset.univ P ∗ S 0) iprop(bigSep Finset.univ Q ∗ S n) := by
  induction n generalizing S with
  | zero =>
    rw [List.ofFn_zero]
    refine (Does.nil x w K c _).mono .rfl ?_
    iintro ⟨H, HS⟩
    isplitl [H]
    · have e : bigSep Finset.univ P ⊢ bigSep Finset.univ Q := by rw [Finset.univ_eq_empty, bigSep_empty, bigSep_empty]
      iapply e $$ H
    iexact HS
  | succ n ih =>
    rw [List.ofFn_succ]
    have ih' := ih (fun i => f i.succ) (fun i => P i.succ) (fun i => Q i.succ) (fun j => S (j + 1)) (fun i => h i.succ)
    have h0 : Does x w K c (f 0) iprop(P 0 ∗ S 0) iprop(Q 0 ∗ S (0 + 1)) := h 0
    intro α k R
    simp only [inOrder, Prog.bind_assoc]
    rw [bigSep_fin_succ P, bigSep_fin_succ Q]
    iintro ⟨#He, ⟨H0, HP⟩, HS⟩ Hk
    iapply (h0 α _ R) $$ [H0 HS]
    · isplitr; · iexact He
      isplitl [H0] <;> iassumption
    iintro ⟨H0, HS⟩
    iapply (ih' α k R) $$ [HP HS]
    · isplitr; · iexact He
      isplitl [HP]; · iexact HP
      iexact HS
    iintro ⟨HQ, HS⟩
    iapply Hk
    isplitl [H0 HQ]
    · isplitl [H0] <;> iassumption
    iexact HS

theorem each2_eq (f : Fin 2 → Code F) : each2 f = inOrder (List.ofFn f) := by simp only [List.ofFn_succ, List.ofFn_zero]; rfl
theorem each6_eq (f : Fin 6 → Code F) : each6 f = inOrder (List.ofFn f) := by simp only [List.ofFn_succ, List.ofFn_zero]; rfl
theorem each16_eq (f : Fin 16 → Code F) : each16 f = inOrder (List.ofFn f) := by simp only [List.ofFn_succ, List.ofFn_zero]; rfl

end Does

/-! ## Loads and stores of 32-bit buffers -/

section Fill

variable {s : Shape} (c : Dev nD) (M : Memref sig .tc .vmem s .f32) {α : Type}
  {k : PUnit → Prog (TpuEff nD τ sig (Elt F) Λ₀ .tc) α} {R : α → sProp (MT nD τ sig Unit (Elt F) ℕ UU ℕ)}

/-- A store (after the load that goes with it) into held indices. -/
theorem held_fill {off size : Fin s.rank → ℕ} {inb : ∀ a, off a + size a ≤ s.size a} {h : 0 < (⟨s.rank, size⟩ : Shape).numel}
    {v : Vec F ⟨s.rank, size⟩ .f32} {S : Finset s.Idx} {f f' : s.Idx → Elt F .f32}
    (hS : ∀ z, (Rect.unit off size inb).emb z ∈ S) (hin : ∀ z, f' ((Rect.unit off size inb).emb z) = v z)
    (hout : ∀ y ∈ S, y ∉ (Rect.unit off size inb).set → f' y = f y) :
    held c M S f ⊢ iprop((held c M S f' -∗ wpc c (k ⟨⟩) R) -∗ wpc c (fillAt M off size inb h v >>= k) R) := by
  simp only [fillAt, Prog.bind_assoc]
  iintro H Hk
  iapply (held_load c M hS) $$ H
  iintro H
  simp only [storeAt, Prog.lift, Prog.bind_op, Prog.bind_ret]
  iapply (held_storeOp c M hS hin hout) $$ H
  iexact Hk

end Fill

/-! ## The halves of the lanes -/

section Slots

variable (c : Dev nD) {α : Type} {R : α → sProp (MT nD τ sig Unit (Elt F) ℕ UU ℕ)}

theorem mem_elems (t : Xfer) (h : Fin 2) (y : (⟨4, ![nF t.1, 2, rows t.2.1, 128]⟩ : Shape).Idx) :
    y ∈ elems t h ↔ (y 0).val = t.2.2.val ∧ (y 1).val = h.val := by
  have h2 : (y 2).val < rows t.2.1 := (y 2).isLt
  have h3 : (y 3).val < 128 := (y 3).isLt
  rw [elems, halfRect, Rect.mem_set_unit]
  constructor
  · intro H
    have H0 : t.2.2.val ≤ (y 0).val ∧ (y 0).val < t.2.2.val + 1 := H 0
    have H1 : h.val ≤ (y 1).val ∧ (y 1).val < h.val + 1 := H 1
    omega
  · rintro ⟨H0, H1⟩ a
    fin_cases a
    · show t.2.2.val ≤ (y 0).val ∧ (y 0).val < t.2.2.val + 1; omega
    · show h.val ≤ (y 1).val ∧ (y 1).val < h.val + 1; omega
    · show 0 ≤ (y 2).val ∧ (y 2).val < 0 + rows t.2.1; omega
    · show 0 ≤ (y 3).val ∧ (y 3).val < 0 + 128; omega

theorem slot_congr (t : Xfer) (h : Fin 2) {v v' : ℕ → ℕ → Elt F .bf16} (e : ∀ r k, r < rows t.2.1 → k < 128 → v r k = v' r k) :
    slot c t h v ⊢ slot c t h v' :=
  held_congr c _ fun y _ => e _ _ (y 2).isLt (y 3).isLt

theorem rows_pos' (k : Fin 4) : 0 < rows k := by fin_cases k <;> decide

/-- A half that is held reads something. -/
theorem slotAny_slot (t : Xfer) (h : Fin 2) : slotAny (F := F) c t h ⊢ iprop(∃ v, slot c t h v) := by
  unfold slotAny owned
  iintro ⟨%f, H⟩
  have hp : ∀ a, 0 < (⟨4, ![nF t.1, 2, rows t.2.1, 128]⟩ : Shape).size a := by
    intro a
    have := t.2.2.isLt
    have hr : 0 < rows t.2.1 := rows_pos' t.2.1
    fin_cases a
    · show 0 < nF t.1; omega
    · show 0 < 2; omega
    · exact hr
    · show 0 < 128; omega
  iexists fun r k => f (ix _ hp ![t.2.2.val, h.val, r, k])
  have hc : held c (stageOf t.1 t.2.1).buf (elems t h) f ⊢ slot c t h fun r k => f (ix _ hp ![t.2.2.val, h.val, r, k]) := by
    refine held_congr c _ fun y hy => ?_
    obtain ⟨h0, h1⟩ := (mem_elems t h y).mp hy
    refine congrArg f (funext fun a => Fin.ext ?_)
    show (y a).val = (![t.2.2.val, h.val, (y 2).val, (y 3).val] : Fin 4 → ℕ) a % (⟨4, ![nF t.1, 2, rows t.2.1, 128]⟩ : Shape).size a
    rw [← h0, ← h1, show (![(y 0).val, (y 1).val, (y 2).val, (y 3).val] : Fin 4 → ℕ) a = (y a).val by fin_cases a <;> rfl]
    exact (Nat.mod_eq_of_lt (y a).isLt).symm
  iapply hc $$ H

theorem slot_any (t : Xfer) (h : Fin 2) (v : ℕ → ℕ → Elt F .bf16) : slot c t h v ⊢ slotAny c t h := held_owned c _ _ _

/-- Loading rows of a half returns what the half reads there. -/
theorem slot_get (t : Xfer) (h : Fin 2) (v : ℕ → ℕ → Elt F .bf16) {N : ℕ} (o : ℕ) {off : Fin 4 → ℕ} (hoff : off = ![t.2.2.val, h.val, o, 0])
    {inb : ∀ a, off a + (![1, 1, N, 128] : Fin 4 → ℕ) a ≤ (![nF t.1, 2, rows t.2.1, 128] : Fin 4 → ℕ) a} {hN : 0 < N}
    {k : Vec F ⟨4, ![1, 1, N, 128]⟩ .bf16 → Prog (TpuEff nD τ sig (Elt F) Λ₀ .tc) α} :
    slot c t h v ⊢ iprop((slot c t h v -∗ wpc c (k (blk4 N 128 v o)) R) -∗ wpc c ((stageOf t.1 t.2.1).get N off inb hN >>= k) R) := by
  subst hoff
  unfold slot Stage.get
  have hz (z : (⟨4, ![1, 1, N, 128]⟩ : Shape).Idx) (a : Fin 4) :
      ((Rect.unit (s := ⟨4, ![nF t.1, 2, rows t.2.1, 128]⟩) ![t.2.2.val, h.val, o, 0] ![1, 1, N, 128] inb).emb z a).val
        = (![t.2.2.val, h.val, o, 0] : Fin 4 → ℕ) a + 1 * (z a).val := rfl
  have hl := held_load c (stageOf t.1 t.2.1).buf (off := ![t.2.2.val, h.val, o, 0]) (size := ![1, 1, N, 128]) (inb := inb) (h := rows_pos hN)
    (S := elems t h) (f := fun y => v (y 2).val (y 3).val) (fun z => by
      rw [mem_elems, hz, hz]
      have h0 : (z 0).val < 1 := (z 0).isLt
      have h1 : (z 1).val < 1 := (z 1).isLt
      constructor
      · show t.2.2.val + 1 * (z 0).val = _; omega
      · show h.val + 1 * (z 1).val = _; omega) (k := k) (Q := R)
  have e : (fun z : (⟨4, ![1, 1, N, 128]⟩ : Shape).Idx => v
      ((Rect.unit (s := ⟨4, ![nF t.1, 2, rows t.2.1, 128]⟩) ![t.2.2.val, h.val, o, 0] ![1, 1, N, 128] inb).emb z 2).val
      ((Rect.unit (s := ⟨4, ![nF t.1, 2, rows t.2.1, 128]⟩) ![t.2.2.val, h.val, o, 0] ![1, 1, N, 128] inb).emb z 3).val) = blk4 N 128 v o := by
    funext z
    rw [hz, hz]
    show v (o + 1 * (z 2).val) (0 + 1 * (z 3).val) = v (o + (z 2).val) (z 3).val
    rw [Nat.one_mul, Nat.one_mul, Nat.zero_add]
  rw [← e]
  exact hl

/-- Storing rows of `u` into the first half. -/
theorem slot_fill (t : Xfer) (v u : ℕ → ℕ → Elt F .bf16) {N o : ℕ} {ho : o + N ≤ rows t.2.1} {ho2 : 2 ∣ o} {hN2 : 2 ∣ N} {hN : 0 < N}
    {val : Vec F ⟨4, ![1, 1, N, 128]⟩ .bf16} (hu : ∀ z, u (o + (z 2).val) (z 3).val = val z)
    {k : PUnit → Prog (TpuEff nD τ sig (Elt F) Λ₀ .tc) α} :
    slot c t 0 v ⊢ iprop((slot c t 0 (fun r q => if o ≤ r ∧ r < o + N then u r q else v r q) -∗ wpc c (k ⟨⟩) R)
      -∗ wpc c ((stageOf t.1 t.2.1).fill N t.2.2 o ho ho2 hN2 hN val >>= k) R) := by
  simp only [Stage.fill, Prog.bind_assoc]
  iintro H Hk
  iapply (slot_get c t 0 v o rfl) $$ H
  iintro H
  have hz (z : (⟨4, ![1, 1, N, 128]⟩ : Shape).Idx) (a : Fin 4) :
      ((Rect.unit (s := ⟨4, ![nF t.1, 2, rows t.2.1, 128]⟩) ![t.2.2.val, 0, o, 0] ![1, 1, N, 128] (rows_inb t.2.2 0 ho)).emb z a).val
        = (![t.2.2.val, 0, o, 0] : Fin 4 → ℕ) a + 1 * (z a).val := rfl
  simp only [Stage.put, Prog.lift, Prog.bind_op, Prog.bind_ret]
  unfold slot
  iapply (held_storeOp c (stageOf t.1 t.2.1).buf (f' := fun y => if o ≤ (y 2).val ∧ (y 2).val < o + N then u (y 2).val (y 3).val else v (y 2).val (y 3).val)
    (fun z => by
      rw [mem_elems, hz, hz]
      have h0 : (z 0).val < 1 := (z 0).isLt
      have h1 : (z 1).val < 1 := (z 1).isLt
      constructor
      · show t.2.2.val + 1 * (z 0).val = _; omega
      · show 0 + 1 * (z 1).val = 0; omega)
    (fun z => by
      have h2 : (z 2).val < N := (z 2).isLt
      rw [hz, hz]
      show (if o ≤ o + 1 * (z 2).val ∧ o + 1 * (z 2).val < o + N then u (o + 1 * (z 2).val) (0 + 1 * (z 3).val)
        else v (o + 1 * (z 2).val) (0 + 1 * (z 3).val)) = val z
      rw [if_pos (by omega), ← hu, Nat.one_mul, Nat.one_mul, Nat.zero_add])
    (fun y hy hr => by
      obtain ⟨h0, h1⟩ := (mem_elems t 0 y).mp hy
      refine if_neg fun hn => hr ?_
      rw [Rect.mem_set_unit]
      have h3 : (y 3).val < 128 := (y 3).isLt
      intro a
      fin_cases a
      · show t.2.2.val ≤ (y 0).val ∧ (y 0).val < t.2.2.val + 1; omega
      · show 0 ≤ (y 1).val ∧ (y 1).val < 0 + 1
        have h1' : (y 1).val = 0 := h1
        omega
      · exact hn
      · show 0 ≤ (y 3).val ∧ (y 3).val < 0 + 128; omega)) $$ H
  iexact Hk

end Slots

/-! ## The partial products and the running sums -/

section Sums

variable (c : Dev nD) {α : Type} {R : α → sProp (MT nD τ sig Unit (Elt F) ℕ UU ℕ)}

section Grid

variable {p q : ℕ} (M : Memref sig .tc .vmem ⟨2, ![p, q]⟩ .f32)

/-- A two-dimensional buffer, reading `v`. -/
def grid (v : ℕ → ℕ → Elt F .f32) : sProp 𝕄 := held c M Finset.univ fun y => v (y 0).val (y 1).val

/-- A two-dimensional buffer, its rows below `n` reading `v`. -/
def rowsTo (v : ℕ → ℕ → Elt F .f32) (n : ℕ) : sProp 𝕄 :=
  iprop(∃ f : (⟨2, ![p, q]⟩ : Shape).Idx → Elt F .f32, ⌜∀ y, (y 0).val < n → f y = v (y 0).val (y 1).val⌝ ∗ held c M Finset.univ f)

theorem grid_any (v : ℕ → ℕ → Elt F .f32) : grid c M v ⊢ owned c M Finset.univ := held_owned c _ _ _

theorem rowsTo_zero (v : ℕ → ℕ → Elt F .f32) : owned (F := F) c M Finset.univ ⊢ rowsTo c M v 0 := by
  unfold owned rowsTo
  iintro ⟨%f, H⟩
  iexists f
  isplitr
  · ipureintro
    intro y hy
    exact absurd hy (Nat.not_lt_zero _)
  iexact H

theorem rowsTo_all (v : ℕ → ℕ → Elt F .f32) : rowsTo c M v p ⊢ grid c M v := by
  unfold rowsTo grid
  iintro ⟨%f, %hf, H⟩
  iapply (held_congr c M (S := Finset.univ) (f := f) (f' := fun y => v (y 0).val (y 1).val) fun y _ => hf y (y 0).isLt) $$ H

theorem grid_load (v : ℕ → ℕ → Elt F .f32) {a n : ℕ} (r₀ k₀ : ℕ) {off : Fin 2 → ℕ} (hoff : off = ![r₀, k₀])
    {inb : Inb off ![a, n] ![p, q]} {h : 0 < (⟨2, ![a, n]⟩ : Shape).numel}
    {k : Vec F ⟨2, ![a, n]⟩ .f32 → Prog (TpuEff nD τ sig (Elt F) Λ₀ .tc) α} :
    grid c M v ⊢ iprop((grid c M v -∗ wpc c (k (blk2 a n v r₀ k₀)) R) -∗ wpc c (loadAt M off ![a, n] inb h >>= k) R) := by
  subst hoff
  have hl := held_load c M (off := ![r₀, k₀]) (size := ![a, n]) (inb := inb) (h := h) (S := Finset.univ)
    (f := fun y => v (y 0).val (y 1).val) (fun z => Finset.mem_univ _) (k := k) (Q := R)
  have e : (fun z : (⟨2, ![a, n]⟩ : Shape).Idx => v
      ((Rect.unit (s := ⟨2, ![p, q]⟩) ![r₀, k₀] ![a, n] inb).emb z 0).val
      ((Rect.unit (s := ⟨2, ![p, q]⟩) ![r₀, k₀] ![a, n] inb).emb z 1).val) = blk2 a n v r₀ k₀ := by
    funext z
    show v (r₀ + 1 * (z 0).val) (k₀ + 1 * (z 1).val) = v (r₀ + (z 0).val) (k₀ + (z 1).val)
    rw [Nat.one_mul, Nat.one_mul]
  rw [← e]
  exact hl

/-- Storing the next rows. -/
theorem rowsTo_fill (v : ℕ → ℕ → Elt F .f32) {a n m : ℕ} (hm : m = n + a) {inb : Inb ![n, 0] ![a, q] ![p, q]}
    {h : 0 < (⟨2, ![a, q]⟩ : Shape).numel} {val : Vec F ⟨2, ![a, q]⟩ .f32} (hv : ∀ z, v (n + (z 0).val) (z 1).val = val z)
    {k : PUnit → Prog (TpuEff nD τ sig (Elt F) Λ₀ .tc) α} :
    rowsTo c M v n ⊢ iprop((rowsTo c M v m -∗ wpc c (k ⟨⟩) R) -∗ wpc c (fillAt M ![n, 0] ![a, q] inb h val >>= k) R) := by
  subst hm
  unfold rowsTo
  iintro ⟨%f, %hf, H⟩ Hk
  iapply (held_fill c M (f' := fun y => if n ≤ (y 0).val ∧ (y 0).val < n + a then v (y 0).val (y 1).val else f y)
    (fun z => Finset.mem_univ _)
    (fun z => by
      have h0 : (z 0).val < a := (z 0).isLt
      show (if n ≤ n + 1 * (z 0).val ∧ n + 1 * (z 0).val < n + a then v (n + 1 * (z 0).val) (0 + 1 * (z 1).val) else f _) = _
      rw [if_pos (by omega), Nat.one_mul, Nat.one_mul, Nat.zero_add]
      exact hv z)
    (fun y _ hr => if_neg fun hn => hr (by
      rw [Rect.mem_set_unit]
      have h1 : (y 1).val < q := (y 1).isLt
      intro a
      fin_cases a
      · exact hn
      · show 0 ≤ (y 1).val ∧ (y 1).val < 0 + q; omega))) $$ H
  iintro H
  iapply Hk
  iexists fun y => if n ≤ (y 0).val ∧ (y 0).val < n + a then v (y 0).val (y 1).val else f y
  isplitr
  · ipureintro
    intro y hy
    by_cases h : n ≤ (y 0).val
    · exact if_pos ⟨h, hy⟩
    · exact (if_neg fun hn => h hn.1).trans (hf y (by omega))
  iexact H

end Grid

/-- The partial products of family `b`, reading `v`. -/
abbrev accHas (b : Bool) (v : ℕ → ℕ → Elt F .f32) : sProp 𝕄 := grid c (accOf b) v

theorem acc_load (b : Bool) (v : ℕ → ℕ → Elt F .f32) {a q : ℕ} (r₀ k₀ : ℕ) {off : Fin 2 → ℕ} (hoff : off = ![r₀, k₀])
    {inb : Inb off ![a, q] ![1024, wF b]} {h : 0 < (⟨2, ![a, q]⟩ : Shape).numel}
    {k : Vec F ⟨2, ![a, q]⟩ .f32 → Prog (TpuEff nD τ sig (Elt F) Λ₀ .tc) α} :
    accHas c b v ⊢ iprop((accHas c b v -∗ wpc c (k (blk2 a q v r₀ k₀)) R) -∗ wpc c (loadAt (accOf b) off ![a, q] inb h >>= k) R) :=
  grid_load c (accOf b) v r₀ k₀ hoff

/-- The elements of the running sum of a lane. -/
def runElems (b : Bool) (i : Fin (nF b)) : Finset (⟨3, ![nF b, 256, 128]⟩ : Shape).Idx := Finset.univ.filter fun y => (y 0).val = i.val

/-- The running sum of a lane, reading `v`. -/
def runHas (b : Bool) (i : Fin (nF b)) (v : ℕ → ℕ → Elt F .f32) : sProp 𝕄 :=
  held c (runOf b) (runElems b i) fun y => v (y 1).val (y 2).val

def runAny (b : Bool) (i : Fin (nF b)) : sProp 𝕄 := owned (F := F) c (runOf b) (runElems b i)

theorem mem_runElems (b : Bool) (i : Fin (nF b)) (y : (⟨3, ![nF b, 256, 128]⟩ : Shape).Idx) : y ∈ runElems b i ↔ (y 0).val = i.val := by
  simp [runElems]

theorem run_load (b : Bool) (i : Fin (nF b)) (v : ℕ → ℕ → Elt F .f32) {a : ℕ} (o : ℕ) {off : Fin 3 → ℕ} (hoff : off = ![i.val, o, 0])
    {inb : Inb off ![1, a, 128] ![nF b, 256, 128]} {h : 0 < (⟨3, ![1, a, 128]⟩ : Shape).numel}
    {k : Vec F ⟨3, ![1, a, 128]⟩ .f32 → Prog (TpuEff nD τ sig (Elt F) Λ₀ .tc) α} :
    runHas c b i v ⊢ iprop((runHas c b i v -∗ wpc c (k (blk3 a 128 v o)) R) -∗ wpc c (loadAt (runOf b) off ![1, a, 128] inb h >>= k) R) := by
  subst hoff
  have hl := held_load c (runOf b) (off := ![i.val, o, 0]) (size := ![1, a, 128]) (inb := inb) (h := h) (S := runElems b i)
    (f := fun y => v (y 1).val (y 2).val) (fun z => by
      rw [mem_runElems]
      have h0 : (z 0).val < 1 := (z 0).isLt
      show i.val + 1 * (z 0).val = _; omega) (k := k) (Q := R)
  have e : (fun z : (⟨3, ![1, a, 128]⟩ : Shape).Idx => v
      ((Rect.unit (s := ⟨3, ![nF b, 256, 128]⟩) ![i.val, o, 0] ![1, a, 128] inb).emb z 1).val
      ((Rect.unit (s := ⟨3, ![nF b, 256, 128]⟩) ![i.val, o, 0] ![1, a, 128] inb).emb z 2).val) = blk3 a 128 v o := by
    funext z
    show v (o + 1 * (z 1).val) (0 + 1 * (z 2).val) = v (o + (z 1).val) (z 2).val
    rw [Nat.one_mul, Nat.one_mul, Nat.zero_add]
  rw [← e]
  exact hl

/-- Storing the whole running sum of a lane. -/
theorem run_fill (b : Bool) (i : Fin (nF b)) (u : ℕ → ℕ → Elt F .f32) {inb : Inb ![i.val, 0, 0] ![1, 256, 128] ![nF b, 256, 128]}
    {h : 0 < (⟨3, ![1, 256, 128]⟩ : Shape).numel} {val : Vec F ⟨3, ![1, 256, 128]⟩ .f32} (hu : ∀ z, u (z 1).val (z 2).val = val z)
    {k : PUnit → Prog (TpuEff nD τ sig (Elt F) Λ₀ .tc) α} :
    runAny c b i ⊢ iprop((runHas c b i u -∗ wpc c (k ⟨⟩) R) -∗ wpc c (fillAt (runOf b) ![i.val, 0, 0] ![1, 256, 128] inb h val >>= k) R) := by
  unfold runAny owned runHas
  iintro ⟨%f, H⟩ Hk
  iapply (held_fill c (runOf b) (f' := fun y => u (y 1).val (y 2).val)
    (fun z => by
      rw [mem_runElems]
      have h0 : (z 0).val < 1 := (z 0).isLt
      show i.val + 1 * (z 0).val = _; omega)
    (fun z => by
      show u (0 + 1 * (z 1).val) (0 + 1 * (z 2).val) = val z
      rw [← hu, Nat.one_mul, Nat.one_mul, Nat.zero_add, Nat.zero_add])
    (fun y hy hr => by
      have h0 := (mem_runElems b i y).mp hy
      refine absurd ?_ hr
      rw [Rect.mem_set_unit]
      have h1 : (y 1).val < 256 := (y 1).isLt
      have h2 : (y 2).val < 128 := (y 2).isLt
      intro a
      fin_cases a
      · show i.val ≤ (y 0).val ∧ (y 0).val < i.val + 1; omega
      · show 0 ≤ (y 1).val ∧ (y 1).val < 0 + 256; omega
      · show 0 ≤ (y 2).val ∧ (y 2).val < 0 + 128; omega)) $$ H
  iexact Hk

theorem run_any (b : Bool) (i : Fin (nF b)) (v : ℕ → ℕ → Elt F .f32) : runHas c b i v ⊢ runAny c b i := held_owned c _ _ _

end Sums

end Cert.Butterfly
-- ==== Proof.Lanes.lean ====
/-
The steps of one lane, each once for a lane of either family.
-/
module

public import proofs.«01_k».proof.Proof.Access

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Lanes

variable (x w : Dev nD → ℕ → ℕ → Elt F .f32) (K : Dev nD × Sm → ℕ) (c : Dev nD) (b : Bool) (i : Fin (nF b))

theorem blk2_lane (a q r : ℕ) : blk2 a q (prod x w b c) r (128 * i.val) = blk2 a q (lane x w b i c) r 0 := by
  funext z
  simp only [blk2, lane, Nat.zero_add]

/-- The first exchange of a lane. -/
theorem does_step1 {o₁ o₂ : Fin 2 → ℕ} {h₁ : Inb o₁ ![256, 128] ![1024, wF b]} {h₂ : Inb o₂ ![256, 128] ![1024, wF b]} {d : Dev nD}
    (e₁ : o₁ = ![lo (big b i) c * 256, 128 * i.val]) (e₂ : o₂ = ![hi (big b i) c * 256, 128 * i.val]) (hd : d = peer ⟨b, 0, i⟩ c) :
    Does x w K c ((fam b).step1 i o₁ o₂ h₁ h₂ d)
      iprop(idle (F := F) c ⟨b, 0, i⟩ ∗ accHas c b (prod x w b c) ∗ owing (F := F) c (base b 0 + i.val))
      iprop(sent (F := F) c ⟨b, 0, i⟩ ∗ accHas c b (prod x w b c) ∗ owing (F := F) c (base b 0 + (i.val + 1))) := by
  intro α k R
  simp only [Fam.step1, fam, Prog.bind_assoc, idle]
  iintro ⟨#He, ⟨Hs, Hd, Ht⟩, Ha, HO⟩ Hk
  iapply (acc_load c b (prod x w b c) _ _ e₁) $$ Ha
  iintro Ha
  rw [blk2_lane]
  ihave Hs := (slotAny_slot c ⟨b, 0, i⟩ 0) $$ Hs
  icases Hs with ⟨%v, Hs⟩
  iapply (slot_fill c ⟨b, 0, i⟩ v (cont x w ⟨b, 0, i⟩ c) (sent1_lo (lane x w b i) (big b i) c)) $$ Hs
  iintro Hs
  iapply (acc_load c b (prod x w b c) _ _ e₂) $$ Ha
  iintro Ha
  rw [blk2_lane]
  iapply (slot_fill c ⟨b, 0, i⟩ _ (cont x w ⟨b, 0, i⟩ c) (sent1_hi (lane x w b i) (big b i) c)) $$ Hs
  iintro Hs
  ihave Hs := (slot_congr c ⟨b, 0, i⟩ 0 (v' := cont x w ⟨b, 0, i⟩ c) (fun r k (hr : r < 512) _ => by
    by_cases h : r < 256
    · rw [if_neg (by omega), if_pos (by omega)]
    · rw [if_pos (by omega)])) $$ Hs
  iapply (wp_xfer x w K c ⟨b, 0, i⟩ d hd) $$ [Hs Hd Ht HO]
  · isplitr; · iexact He
    isplitl [Hs]; · iexact Hs
    isplitl [Hd]; · iexact Hd
    isplitl [Ht]; · iexact Ht
    iexact HO
  iintro ⟨Hs, HO⟩
  iapply Hk
  isplitl [Hs]; · iexact Hs
  isplitl [Ha]; · iexact Ha
  iexact HO

/-- The second exchange of a lane. -/
theorem does_step2 {o₁ : Fin 4 → ℕ} {h₁ : Inb o₁ ![1, 1, 256, 128] ![nF b, 2, 512, 128]} {o₂ : Fin 2 → ℕ}
    {h₂ : Inb o₂ ![256, 128] ![1024, wF b]} {d : Dev nD}
    (e₁ : o₁ = ![i.val, 1, posMate (big b i) c * 256, 0]) (e₂ : o₂ = ![mate (big b i) c * 256, 128 * i.val]) (hd : d = peer ⟨b, 1, i⟩ c) :
    Does x w K c ((fam b).step2 i o₁ h₁ o₂ h₂ d)
      iprop((await (F := F) c ⟨b, 0, i⟩ ∗ idle (F := F) c ⟨b, 1, i⟩) ∗ accHas c b (prod x w b c) ∗ owing (F := F) c (base b 1 + i.val))
      iprop((got x w c ⟨b, 0, i⟩ ∗ sent (F := F) c ⟨b, 1, i⟩) ∗ accHas c b (prod x w b c) ∗ owing (F := F) c (base b 1 + (i.val + 1))) := by
  intro α k R
  simp only [Fam.step2, fam, Prog.bind_assoc, idle]
  iintro ⟨#He, ⟨Hw, Hs, Hd, Ht⟩, Ha, HO⟩ Hk
  iapply (wp_recv x w K c ⟨b, 0, i⟩ (base b 1 + i.val) (rank_before b i 0 1 rfl i)) $$ [Hw HO]
  · isplitr; · iexact He
    isplitl [Hw] <;> iassumption
  unfold got
  iintro ⟨⟨Hr, Hv⟩, HO⟩
  iapply (slot_get c ⟨b, 0, i⟩ 1 (cont x w ⟨b, 0, i⟩ (peer ⟨b, 0, i⟩ c)) _ e₁) $$ Hr
  iintro Hr
  iapply (acc_load c b (prod x w b c) _ _ e₂) $$ Ha
  iintro Ha
  rw [blk2_lane]
  ihave Hs := (slotAny_slot c ⟨b, 1, i⟩ 0) $$ Hs
  icases Hs with ⟨%v, Hs⟩
  iapply (slot_fill c ⟨b, 1, i⟩ v (cont x w ⟨b, 1, i⟩ c) (sent2_all (lane x w b i) (big b i) c)) $$ Hs
  iintro Hs
  ihave Hs := (slot_congr c ⟨b, 1, i⟩ 0 (v' := cont x w ⟨b, 1, i⟩ c) (fun r k (hr : r < 256) _ => if_pos (by omega))) $$ Hs
  iapply (wp_xfer x w K c ⟨b, 1, i⟩ d hd) $$ [Hs Hd Ht HO]
  · isplitr; · iexact He
    isplitl [Hs]; · iexact Hs
    isplitl [Hd]; · iexact Hd
    isplitl [Ht]; · iexact Ht
    iexact HO
  iintro ⟨Hs, HO⟩
  iapply Hk
  isplitl [Hr Hv Hs]
  · isplitl [Hr Hv]
    · isplitl [Hr] <;> iassumption
    iexact Hs
  isplitl [Ha]; · iexact Ha
  iexact HO

/-- The running sum of a lane starts. -/
theorem does_start {o₁ : Fin 4 → ℕ} {h₁ : Inb o₁ ![1, 1, 256, 128] ![nF b, 2, 512, 128]} {o₂ : Fin 2 → ℕ}
    {h₂ : Inb o₂ ![256, 128] ![1024, wF b]}
    (e₁ : o₁ = ![i.val, 1, posOwn (big b i) c * 256, 0]) (e₂ : o₂ = ![own (big b i) c * 256, 128 * i.val]) :
    Does x w K c ((fam b).start i o₁ h₁ o₂ h₂)
      iprop((got x w c ⟨b, 0, i⟩ ∗ runAny (F := F) c b i) ∗ accHas c b (prod x w b c))
      iprop((got x w c ⟨b, 0, i⟩ ∗ runHas c b i (run0 (lane x w b i) (big b i) c)) ∗ accHas c b (prod x w b c)) := by
  intro α k R
  simp only [Fam.start, fam, Prog.bind_assoc, got]
  iintro ⟨#He, ⟨⟨Hr, Hv⟩, Hn⟩, Ha⟩ Hk
  iapply (slot_get c ⟨b, 0, i⟩ 1 (cont x w ⟨b, 0, i⟩ (peer ⟨b, 0, i⟩ c)) _ e₁) $$ Hr
  iintro Hr
  iapply (acc_load c b (prod x w b c) _ _ e₂) $$ Ha
  iintro Ha
  rw [blk2_lane]
  iapply (run_fill c b i (run0 (lane x w b i) (big b i) c) (run0_all (lane x w b i) (big b i) c)) $$ Hn
  iintro Hn
  iapply Hk
  isplitl [Hr Hv Hn]
  · isplitl [Hr Hv]
    · isplitl [Hr] <;> iassumption
    iexact Hn
  iexact Ha

/-- The third exchange of a lane. -/
theorem does_step3 {o₁ o₃ : Fin 3 → ℕ} {o₂ o₄ : Fin 4 → ℕ} {h₁ : Inb o₁ ![1, 64, 128] ![nF b, 256, 128]}
    {h₂ : Inb o₂ ![1, 1, 64, 128] ![nF b, 2, 256, 128]} {h₃ : Inb o₃ ![1, 64, 128] ![nF b, 256, 128]}
    {h₄ : Inb o₄ ![1, 1, 64, 128] ![nF b, 2, 256, 128]} {d : Dev nD}
    (e₁ : o₁ = ![i.val, lo (small b i) c * 64, 0]) (e₂ : o₂ = ![i.val, 1, lo (small b i) c * 64, 0])
    (e₃ : o₃ = ![i.val, hi (small b i) c * 64, 0]) (e₄ : o₄ = ![i.val, 1, hi (small b i) c * 64, 0]) (hd : d = peer ⟨b, 2, i⟩ c) :
    Does x w K c ((fam b).step3 i o₁ h₁ o₂ h₂ o₃ h₃ o₄ h₄ d)
      iprop((await (F := F) c ⟨b, 1, i⟩ ∗ idle (F := F) c ⟨b, 2, i⟩ ∗ runHas c b i (run0 (lane x w b i) (big b i) c))
        ∗ owing (F := F) c (base b 2 + i.val))
      iprop((got x w c ⟨b, 1, i⟩ ∗ sent (F := F) c ⟨b, 2, i⟩ ∗ runHas c b i (run0 (lane x w b i) (big b i) c))
        ∗ owing (F := F) c (base b 2 + (i.val + 1))) := by
  intro α k R
  simp only [Fam.step3, fam, Prog.bind_assoc, idle]
  iintro ⟨#He, ⟨Hw, ⟨Hs, Hd, Ht⟩, Hn⟩, HO⟩ Hk
  iapply (wp_recv x w K c ⟨b, 1, i⟩ (base b 2 + i.val) (rank_before b i 1 2 rfl i)) $$ [Hw HO]
  · isplitr; · iexact He
    isplitl [Hw] <;> iassumption
  unfold got
  iintro ⟨⟨Hr, Hv⟩, HO⟩
  iapply (run_load c b i _ _ e₁) $$ Hn
  iintro Hn
  iapply (slot_get c ⟨b, 1, i⟩ 1 (cont x w ⟨b, 1, i⟩ (peer ⟨b, 1, i⟩ c)) _ e₂) $$ Hr
  iintro Hr
  ihave Hs := (slotAny_slot c ⟨b, 2, i⟩ 0) $$ Hs
  icases Hs with ⟨%v, Hs⟩
  iapply (slot_fill c ⟨b, 2, i⟩ v (cont x w ⟨b, 2, i⟩ c) (sent3_lo (lane x w b i) (big b i) (small b i) c)) $$ Hs
  iintro Hs
  iapply (run_load c b i _ _ e₃) $$ Hn
  iintro Hn
  iapply (slot_get c ⟨b, 1, i⟩ 1 (cont x w ⟨b, 1, i⟩ (peer ⟨b, 1, i⟩ c)) _ e₄) $$ Hr
  iintro Hr
  iapply (slot_fill c ⟨b, 2, i⟩ _ (cont x w ⟨b, 2, i⟩ c) (sent3_hi (lane x w b i) (big b i) (small b i) c)) $$ Hs
  iintro Hs
  ihave Hs := (slot_congr c ⟨b, 2, i⟩ 0 (v' := cont x w ⟨b, 2, i⟩ c) (fun r k (hr : r < 128) _ => by
    by_cases h : r < 64
    · rw [if_neg (by omega), if_pos (by omega)]
    · rw [if_pos (by omega)])) $$ Hs
  iapply (wp_xfer x w K c ⟨b, 2, i⟩ d hd) $$ [Hs Hd Ht HO]
  · isplitr; · iexact He
    isplitl [Hs]; · iexact Hs
    isplitl [Hd]; · iexact Hd
    isplitl [Ht]; · iexact Ht
    iexact HO
  iintro ⟨Hs, HO⟩
  iapply Hk
  isplitr [HO]
  · isplitl [Hr Hv]
    · isplitl [Hr] <;> iassumption
    isplitl [Hs] <;> iassumption
  iexact HO

/-- The running sum of a lane takes the block received in the second exchange. -/
theorem does_grow :
    Does x w K c ((fam b).grow i)
      iprop((got x w c ⟨b, 1, i⟩ ∗ runHas c b i (run0 (lane x w b i) (big b i) c)) ∗ emp)
      iprop((got x w c ⟨b, 1, i⟩ ∗ runHas c b i (run1 (lane x w b i) (big b i) c)) ∗ emp) := by
  intro α k R
  simp only [Fam.grow, fam, Prog.bind_assoc, got]
  iintro ⟨#He, ⟨⟨Hr, Hv⟩, Hn⟩, -⟩ Hk
  iapply (run_load c b i _ 0 rfl) $$ Hn
  iintro Hn
  iapply (slot_get c ⟨b, 1, i⟩ 1 (cont x w ⟨b, 1, i⟩ (peer ⟨b, 1, i⟩ c)) 0 rfl) $$ Hr
  iintro Hr
  ihave Hn := (run_any c b i _) $$ Hn
  iapply (run_fill c b i (run1 (lane x w b i) (big b i) c) (run1_all (lane x w b i) (big b i) c)) $$ Hn
  iintro Hn
  iapply Hk
  isplitl
  · isplitl [Hr Hv]
    · isplitl [Hr] <;> iassumption
    iexact Hn
  iempintro

/-- The fourth exchange of a lane. -/
theorem does_step4 {o₁ : Fin 4 → ℕ} {h₁ : Inb o₁ ![1, 1, 64, 128] ![nF b, 2, 128, 128]} {o₂ : Fin 3 → ℕ}
    {h₂ : Inb o₂ ![1, 64, 128] ![nF b, 256, 128]} {d : Dev nD}
    (e₁ : o₁ = ![i.val, 1, posMate (small b i) c * 64, 0]) (e₂ : o₂ = ![i.val, mate (small b i) c * 64, 0]) (hd : d = peer ⟨b, 3, i⟩ c) :
    Does x w K c ((fam b).step4 i o₁ h₁ o₂ h₂ d)
      iprop((await (F := F) c ⟨b, 2, i⟩ ∗ idle (F := F) c ⟨b, 3, i⟩ ∗ runHas c b i (run1 (lane x w b i) (big b i) c))
        ∗ owing (F := F) c (base b 3 + i.val))
      iprop((got x w c ⟨b, 2, i⟩ ∗ sent (F := F) c ⟨b, 3, i⟩ ∗ runHas c b i (run1 (lane x w b i) (big b i) c))
        ∗ owing (F := F) c (base b 3 + (i.val + 1))) := by
  intro α k R
  simp only [Fam.step4, fam, Prog.bind_assoc, idle]
  iintro ⟨#He, ⟨Hw, ⟨Hs, Hd, Ht⟩, Hn⟩, HO⟩ Hk
  iapply (wp_recv x w K c ⟨b, 2, i⟩ (base b 3 + i.val) (rank_before b i 2 3 rfl i)) $$ [Hw HO]
  · isplitr; · iexact He
    isplitl [Hw] <;> iassumption
  unfold got
  iintro ⟨⟨Hr, Hv⟩, HO⟩
  iapply (slot_get c ⟨b, 2, i⟩ 1 (cont x w ⟨b, 2, i⟩ (peer ⟨b, 2, i⟩ c)) _ e₁) $$ Hr
  iintro Hr
  iapply (run_load c b i _ _ e₂) $$ Hn
  iintro Hn
  ihave Hs := (slotAny_slot c ⟨b, 3, i⟩ 0) $$ Hs
  icases Hs with ⟨%v, Hs⟩
  iapply (slot_fill c ⟨b, 3, i⟩ v (cont x w ⟨b, 3, i⟩ c) (sent4_all (lane x w b i) (big b i) (small b i) c)) $$ Hs
  iintro Hs
  ihave Hs := (slot_congr c ⟨b, 3, i⟩ 0 (v' := cont x w ⟨b, 3, i⟩ c) (fun r k (hr : r < 64) _ => if_pos (by omega))) $$ Hs
  iapply (wp_xfer x w K c ⟨b, 3, i⟩ d hd) $$ [Hs Hd Ht HO]
  · isplitr; · iexact He
    isplitl [Hs]; · iexact Hs
    isplitl [Hd]; · iexact Hd
    isplitl [Ht]; · iexact Ht
    iexact HO
  iintro ⟨Hs, HO⟩
  iapply Hk
  isplitr [HO]
  · isplitl [Hr Hv]
    · isplitl [Hr] <;> iassumption
    isplitl [Hs] <;> iassumption
  iexact HO

/-- The result, its columns below `n` written. -/
def outTo (out : Memref sig .tc .vmem S64x1024 .f32) (n : ℕ) : sProp 𝕄 :=
  iprop(∃ f : S64x1024.Idx → Elt F .f32, ⌜∀ y, (y 1).val < n → f y = result x w c (y 0).val (y 1).val⌝ ∗ held c out Finset.univ f)

/-- The result of a lane. -/
theorem does_finish (out : Memref sig .tc .vmem S64x1024 .f32) {o₁ : Fin 4 → ℕ} {h₁ : Inb o₁ ![1, 1, 64, 128] ![nF b, 2, 128, 128]} {o₂ : Fin 3 → ℕ}
    {h₂ : Inb o₂ ![1, 64, 128] ![nF b, 256, 128]} {o₃ : Fin 2 → ℕ} {h₃ : Inb o₃ ![64, 128] ![64, 1024]}
    (e₁ : o₁ = ![i.val, 1, posOwn (small b i) c * 64, 0]) (e₂ : o₂ = ![i.val, own (small b i) c * 64, 0])
    (e₃ : o₃ = ![0, col b i]) :
    Does x w K c ((fam b).finish out i o₁ h₁ o₂ h₂ o₃ h₃)
      iprop((await (F := F) c ⟨b, 3, i⟩ ∗ got x w c ⟨b, 2, i⟩ ∗ runHas c b i (run1 (lane x w b i) (big b i) c))
        ∗ outTo x w c out (col b i) ∗ owing (F := F) c 32)
      iprop((got x w c ⟨b, 3, i⟩ ∗ got x w c ⟨b, 2, i⟩ ∗ runHas c b i (run1 (lane x w b i) (big b i) c))
        ∗ outTo x w c out (col b i + 128) ∗ owing (F := F) c 32) := by
  subst e₃
  intro α k R
  simp only [Fam.finish, fam, Prog.bind_assoc, outTo]
  iintro ⟨#He, ⟨Hw, Hg, Hn⟩, ⟨%f, %hf, Hf⟩, HO⟩ Hk
  iapply (wp_recv x w K c ⟨b, 3, i⟩ 32 (rank_lt _)) $$ [Hw HO]
  · isplitr; · iexact He
    isplitl [Hw] <;> iassumption
  unfold got
  iintro ⟨⟨Hr, Hv⟩, HO⟩
  icases Hg with ⟨Hg, Hu⟩
  iapply (slot_get c ⟨b, 2, i⟩ 1 (cont x w ⟨b, 2, i⟩ (peer ⟨b, 2, i⟩ c)) _ e₁) $$ Hg
  iintro Hg
  iapply (run_load c b i _ _ e₂) $$ Hn
  iintro Hn
  iapply (slot_get c ⟨b, 3, i⟩ 1 (cont x w ⟨b, 3, i⟩ (peer ⟨b, 3, i⟩ c)) 0 rfl) $$ Hr
  iintro Hr
  iapply (held_fill c out (f' := fun y => if col b i ≤ (y 1).val ∧ (y 1).val < col b i + 128 then result x w c (y 0).val (y 1).val else f y)
    (fun z => Finset.mem_univ _)
    (fun z => by
      have h1 : (z 1).val < 128 := (z 1).isLt
      show (if col b i ≤ col b i + 1 * (z 1).val ∧ col b i + 1 * (z 1).val < col b i + 128
        then result x w c (0 + 1 * (z 0).val) (col b i + 1 * (z 1).val) else f _) = _
      rw [if_pos (by omega), Nat.one_mul, Nat.one_mul, Nat.zero_add, result_col x w b i c _ _ h1]
      exact res_all (lane x w b i) (big b i) (small b i) c z)
    (fun y _ hr => if_neg fun hn => hr (by
      rw [Rect.mem_set_unit]
      have h0 : (y 0).val < 64 := (y 0).isLt
      intro a
      fin_cases a
      · show 0 ≤ (y 0).val ∧ (y 0).val < 0 + 64; omega
      · exact hn))) $$ Hf
  iintro Hf
  iapply Hk
  isplitr [Hf HO]
  · isplitl [Hr Hv]
    · isplitl [Hr] <;> iassumption
    isplitl [Hg Hu]
    · isplitl [Hg] <;> iassumption
    iexact Hn
  isplitr [HO]
  · iexists fun y => if col b i ≤ (y 1).val ∧ (y 1).val < col b i + 128 then result x w c (y 0).val (y 1).val else f y
    isplitr
    · ipureintro
      intro y hy
      by_cases h : col b i ≤ (y 1).val
      · exact if_pos ⟨h, hy⟩
      · exact (if_neg fun hn => h hn.1).trans (hf y (by omega))
    iexact Hf
  iexact HO

/-- The end of a transfer of a lane, at its sender. -/
theorem does_sent (t : Xfer) :
    Does x w K c ((stageOf t.1 t.2.1).waitSnd t.2.2) iprop(sent (F := F) c t ∗ owing (F := F) c 32) iprop(done x w c t ∗ owing (F := F) c 32) :=
  fun α k R => wp_sent x w K c t

end Lanes

end Cert.Butterfly
-- ==== Proof.Phases.lean ====
/-
The phases of the body: each loop over the lanes of a family, from the steps of one lane.
-/
module

public import proofs.«01_k».proof.Proof.Lanes

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Phases

variable (x w : Dev nD → ℕ → ℕ → Elt F .f32) (K : Dev nD × Sm → ℕ) (c : Dev nD)

/-! ## The partial products -/

section Products

variable (xM : Memref sig .tc .vmem S1024x64 .f32) (wM oM : Memref sig .tc .vmem S64x1024 .f32)

theorem does_copy (j : Fin 16) :
    Does x w K c ((bufs xM wM oM).copy j)
      iprop(emp ∗ grid c xM (x c) ∗ rowsTo c (Memref.whole cc0_scratch0) (perm x c) (64 * j.val))
      iprop(emp ∗ grid c xM (x c) ∗ rowsTo c (Memref.whole cc0_scratch0) (perm x c) (64 * (j.val + 1))) := by
  intro α k R
  simp only [Bufs.copy, bufs, Prog.bind_assoc]
  iintro ⟨-, -, Hx, Hp⟩ Hk
  iapply (grid_load c xM (x c) _ _ rfl) $$ Hx
  iintro Hx
  iapply (rowsTo_fill c (Memref.whole cc0_scratch0) (perm x c) (m := 64 * (j.val + 1)) (by omega) (perm_block x c j)) $$ Hp
  iintro Hp
  iapply Hk
  isplitr; · iempintro
  isplitl [Hx] <;> iassumption

theorem does_prodA (j : Fin 2) :
    Does x w K c ((bufs xM wM oM).prodA j)
      iprop(emp ∗ (grid c (Memref.whole cc0_scratch0) (perm x c) ∗ grid c wM (w c)) ∗ rowsTo c (accOf true) (prod x w true c) (512 * j.val))
      iprop(emp ∗ (grid c (Memref.whole cc0_scratch0) (perm x c) ∗ grid c wM (w c)) ∗ rowsTo c (accOf true) (prod x w true c) (512 * (j.val + 1))) := by
  intro α k R
  simp only [Bufs.prodA, bufs, fam, Prog.bind_assoc]
  iintro ⟨-, -, ⟨Hp, Hw⟩, Ha⟩ Hk
  iapply (grid_load c (Memref.whole cc0_scratch0) (perm x c) _ _ rfl) $$ Hp
  iintro Hp
  iapply (grid_load c wM (w c) _ _ rfl) $$ Hw
  iintro Hw
  iapply (rowsTo_fill c (accOf true) (prod x w true c) (m := 512 * (j.val + 1)) (by omega) (prodA_block x w c j)) $$ Ha
  iintro Ha
  iapply Hk
  isplitr; · iempintro
  isplitl [Hp Hw]
  · isplitl [Hp] <;> iassumption
  iexact Ha

theorem does_prodB :
    Does x w K c (bufs xM wM oM).prodB
      iprop(grid c xM (x c) ∗ grid c wM (w c) ∗ owned (F := F) c (accOf false) Finset.univ)
      iprop(grid c xM (x c) ∗ grid c wM (w c) ∗ accHas c false (prod x w false c)) := by
  intro α k R
  simp only [Bufs.prodB, bufs, fam, Prog.bind_assoc]
  iintro ⟨-, Hx, Hw, Ha⟩ Hk
  iapply (grid_load c xM (x c) _ _ rfl) $$ Hx
  iintro Hx
  iapply (grid_load c wM (w c) _ _ rfl) $$ Hw
  iintro Hw
  ihave Ha := (rowsTo_zero c (accOf false) (prod x w false c)) $$ Ha
  iapply (rowsTo_fill c (accOf false) (prod x w false c) (m := 1024) (by omega) (prodB_block x w c)) $$ Ha
  iintro Ha
  ihave Ha := (rowsTo_all c (accOf false) (prod x w false c)) $$ Ha
  iapply Hk
  isplitl [Hx]; · iexact Hx
  isplitl [Hw] <;> iassumption

theorem emps (n : ℕ) : (BI.emp : sProp (MT nD τ sig Unit (Elt F) ℕ UU ℕ)) ⊢ bigSep (Finset.univ : Finset (Fin n)) fun _ => BI.emp := by
  rw [bigSep_emp_const]

theorem does_copies :
    Does x w K c (each16 (bufs xM wM oM).copy)
      iprop(grid c xM (x c) ∗ owned (F := F) c (Memref.whole cc0_scratch0) Finset.univ)
      iprop(grid c xM (x c) ∗ grid c (Memref.whole cc0_scratch0) (perm x c)) := by
  rw [each16_eq]
  refine (Does.loop (bufs xM wM oM).copy (fun _ => BI.emp) (fun _ => BI.emp)
    (fun j => iprop(grid c xM (x c) ∗ rowsTo c (Memref.whole cc0_scratch0) (perm x c) (64 * j))) (does_copy x w K c xM wM oM)).mono ?_ ?_
  · iintro ⟨Hx, Hp⟩
    isplitr; · iapply (emps (F := F) 16); iempintro
    isplitl [Hx]; · iexact Hx
    iapply (rowsTo_zero c (Memref.whole cc0_scratch0) (perm x c)) $$ Hp
  · iintro ⟨-, Hx, Hp⟩
    isplitl [Hx]; · iexact Hx
    iapply (rowsTo_all c (Memref.whole cc0_scratch0) (perm x c)) $$ Hp

theorem does_prodsA :
    Does x w K c (each2 (bufs xM wM oM).prodA)
      iprop(grid c (Memref.whole cc0_scratch0) (perm x c) ∗ grid c wM (w c) ∗ owned (F := F) c (accOf true) Finset.univ)
      iprop(grid c (Memref.whole cc0_scratch0) (perm x c) ∗ grid c wM (w c) ∗ accHas c true (prod x w true c)) := by
  rw [each2_eq]
  refine (Does.loop (bufs xM wM oM).prodA (fun _ => BI.emp) (fun _ => BI.emp)
    (fun j => iprop((grid c (Memref.whole cc0_scratch0) (perm x c) ∗ grid c wM (w c)) ∗ rowsTo c (accOf true) (prod x w true c) (512 * j)))
    (does_prodA x w K c xM wM oM)).mono ?_ ?_
  · iintro ⟨Hp, Hw, Ha⟩
    isplitr; · iapply (emps (F := F) 2); iempintro
    isplitl [Hp Hw]
    · isplitl [Hp] <;> iassumption
    iapply (rowsTo_zero c (accOf true) (prod x w true c)) $$ Ha
  · iintro ⟨-, ⟨Hp, Hw⟩, Ha⟩
    isplitl [Hp]; · iexact Hp
    isplitl [Hw]; · iexact Hw
    iapply (rowsTo_all c (accOf true) (prod x w true c)) $$ Ha

end Products

/-! ## The exchanges of a family -/

variable {x w K c}

theorem Does.each2 {f : Fin 2 → Code F} {P Q : sProp (MT nD τ sig Unit (Elt F) ℕ UU ℕ)} (h : Does x w K c (inOrder (List.ofFn f)) P Q) :
    Does x w K c (Butterfly.each2 f) P Q := by rw [each2_eq]; exact h

theorem Does.each6 {f : Fin 6 → Code F} {P Q : sProp (MT nD τ sig Unit (Elt F) ℕ UU ℕ)} (h : Does x w K c (inOrder (List.ofFn f)) P Q) :
    Does x w K c (Butterfly.each6 f) P Q := by rw [each6_eq]; exact h

variable (x w K c) (b : Bool)

/-- One assertion for every lane of an exchange. -/
def lanes (Φ : Xfer → sProp (MT nD τ sig Unit (Elt F) ℕ UU ℕ)) (k : Fin 4) : sProp 𝕄 := bigSep Finset.univ fun i : Fin (nF b) => Φ ⟨b, k, i⟩

/-- The running sums of a family. -/
def runs (v : (i : Fin (nF b)) → ℕ → ℕ → Elt F .f32) : sProp 𝕄 := bigSep Finset.univ fun i : Fin (nF b) => runHas c b i (v i)

def runsAny : sProp 𝕄 := bigSep Finset.univ fun i : Fin (nF b) => runAny (F := F) c b i

abbrev sum0 (i : Fin (nF b)) : ℕ → ℕ → Elt F .f32 := run0 (lane x w b i) (big b i) c
abbrev sum1 (i : Fin (nF b)) : ℕ → ℕ → Elt F .f32 := run1 (lane x w b i) (big b i) c

theorem does_all1 {o₁ o₂ : Fin (nF b) → Fin 2 → ℕ} {h₁ : ∀ i, Inb (o₁ i) ![256, 128] ![1024, wF b]}
    {h₂ : ∀ i, Inb (o₂ i) ![256, 128] ![1024, wF b]} {d : Fin (nF b) → Dev nD}
    (e₁ : ∀ i, o₁ i = ![lo (big b i) c * 256, 128 * i.val]) (e₂ : ∀ i, o₂ i = ![hi (big b i) c * 256, 128 * i.val])
    (hd : ∀ i, d i = peer ⟨b, 0, i⟩ c) (j j' : ℕ) (hj : base b 0 = j) (hj' : base b 0 + nF b = j') :
    Does x w K c (inOrder (List.ofFn fun i => (fam b).step1 i (o₁ i) (o₂ i) (h₁ i) (h₂ i) (d i)))
      iprop(lanes b (idle (F := F) c) 0 ∗ accHas c b (prod x w b c) ∗ owing (F := F) c j)
      iprop(lanes b (sent (F := F) c) 0 ∗ accHas c b (prod x w b c) ∗ owing (F := F) c j') := by
  subst hj hj'
  exact Does.loop _ _ _ (fun j => iprop(accHas c b (prod x w b c) ∗ owing (F := F) c (base b 0 + j)))
    fun i => does_step1 x w K c b i (e₁ i) (e₂ i) (hd i)

theorem does_all2 {o₁ : Fin (nF b) → Fin 4 → ℕ} {o₂ : Fin (nF b) → Fin 2 → ℕ} {h₁ : ∀ i, Inb (o₁ i) ![1, 1, 256, 128] ![nF b, 2, 512, 128]}
    {h₂ : ∀ i, Inb (o₂ i) ![256, 128] ![1024, wF b]} {d : Fin (nF b) → Dev nD}
    (e₁ : ∀ i, o₁ i = ![i.val, 1, posMate (big b i) c * 256, 0]) (e₂ : ∀ i, o₂ i = ![mate (big b i) c * 256, 128 * i.val])
    (hd : ∀ i, d i = peer ⟨b, 1, i⟩ c) (j j' : ℕ) (hj : base b 1 = j) (hj' : base b 1 + nF b = j') :
    Does x w K c (inOrder (List.ofFn fun i => (fam b).step2 i (o₁ i) (h₁ i) (o₂ i) (h₂ i) (d i)))
      iprop((lanes b (await (F := F) c) 0 ∗ lanes b (idle (F := F) c) 1) ∗ accHas c b (prod x w b c) ∗ owing (F := F) c j)
      iprop((lanes b (got x w c) 0 ∗ lanes b (sent (F := F) c) 1) ∗ accHas c b (prod x w b c) ∗ owing (F := F) c j') := by
  subst hj hj'
  unfold lanes
  rw [← bigSep_sep', ← bigSep_sep']
  exact Does.loop _ _ _ (fun j => iprop(accHas c b (prod x w b c) ∗ owing (F := F) c (base b 1 + j)))
    fun i => does_step2 x w K c b i (e₁ i) (e₂ i) (hd i)

theorem does_starts {o₁ : Fin (nF b) → Fin 4 → ℕ} {o₂ : Fin (nF b) → Fin 2 → ℕ} {h₁ : ∀ i, Inb (o₁ i) ![1, 1, 256, 128] ![nF b, 2, 512, 128]}
    {h₂ : ∀ i, Inb (o₂ i) ![256, 128] ![1024, wF b]}
    (e₁ : ∀ i, o₁ i = ![i.val, 1, posOwn (big b i) c * 256, 0]) (e₂ : ∀ i, o₂ i = ![own (big b i) c * 256, 128 * i.val]) :
    Does x w K c (inOrder (List.ofFn fun i => (fam b).start i (o₁ i) (h₁ i) (o₂ i) (h₂ i)))
      iprop((lanes b (got x w c) 0 ∗ runsAny (F := F) c b) ∗ accHas c b (prod x w b c))
      iprop((lanes b (got x w c) 0 ∗ runs c b (sum0 x w c b)) ∗ accHas c b (prod x w b c)) := by
  unfold lanes runsAny runs
  rw [← bigSep_sep', ← bigSep_sep']
  exact Does.loop _ _ _ (fun j => accHas c b (prod x w b c)) fun i => does_start x w K c b i (e₁ i) (e₂ i)

theorem does_all3 {o₁ o₃ : Fin (nF b) → Fin 3 → ℕ} {o₂ o₄ : Fin (nF b) → Fin 4 → ℕ} {h₁ : ∀ i, Inb (o₁ i) ![1, 64, 128] ![nF b, 256, 128]}
    {h₂ : ∀ i, Inb (o₂ i) ![1, 1, 64, 128] ![nF b, 2, 256, 128]} {h₃ : ∀ i, Inb (o₃ i) ![1, 64, 128] ![nF b, 256, 128]}
    {h₄ : ∀ i, Inb (o₄ i) ![1, 1, 64, 128] ![nF b, 2, 256, 128]} {d : Fin (nF b) → Dev nD}
    (e₁ : ∀ i, o₁ i = ![i.val, lo (small b i) c * 64, 0]) (e₂ : ∀ i, o₂ i = ![i.val, 1, lo (small b i) c * 64, 0])
    (e₃ : ∀ i, o₃ i = ![i.val, hi (small b i) c * 64, 0]) (e₄ : ∀ i, o₄ i = ![i.val, 1, hi (small b i) c * 64, 0])
    (hd : ∀ i, d i = peer ⟨b, 2, i⟩ c) (j j' : ℕ) (hj : base b 2 = j) (hj' : base b 2 + nF b = j') :
    Does x w K c (inOrder (List.ofFn fun i => (fam b).step3 i (o₁ i) (h₁ i) (o₂ i) (h₂ i) (o₃ i) (h₃ i) (o₄ i) (h₄ i) (d i)))
      iprop((lanes b (await (F := F) c) 1 ∗ lanes b (idle (F := F) c) 2 ∗ runs c b (sum0 x w c b)) ∗ owing (F := F) c j)
      iprop((lanes b (got x w c) 1 ∗ lanes b (sent (F := F) c) 2 ∗ runs c b (sum0 x w c b)) ∗ owing (F := F) c j') := by
  subst hj hj'
  unfold lanes runs
  rw [← bigSep_sep', ← bigSep_sep', ← bigSep_sep', ← bigSep_sep']
  exact Does.loop _ _ _ (fun j => owing (F := F) c (base b 2 + j))
    fun i => does_step3 x w K c b i (e₁ i) (e₂ i) (e₃ i) (e₄ i) (hd i)

theorem does_grows :
    Does x w K c (inOrder (List.ofFn fun i => (fam b).grow i))
      iprop(lanes b (got x w c) 1 ∗ runs c b (sum0 x w c b)) iprop(lanes b (got x w c) 1 ∗ runs c b (sum1 x w c b)) := by
  unfold lanes runs
  rw [← bigSep_sep', ← bigSep_sep']
  refine (Does.loop _ _ _ (fun j => BI.emp) fun i => does_grow x w K c b i).mono ?_ ?_
  · iintro H
    isplitl; · iexact H
    iempintro
  · iintro ⟨H, -⟩
    iexact H

theorem does_all4 {o₁ : Fin (nF b) → Fin 4 → ℕ} {o₂ : Fin (nF b) → Fin 3 → ℕ} {h₁ : ∀ i, Inb (o₁ i) ![1, 1, 64, 128] ![nF b, 2, 128, 128]}
    {h₂ : ∀ i, Inb (o₂ i) ![1, 64, 128] ![nF b, 256, 128]} {d : Fin (nF b) → Dev nD}
    (e₁ : ∀ i, o₁ i = ![i.val, 1, posMate (small b i) c * 64, 0]) (e₂ : ∀ i, o₂ i = ![i.val, mate (small b i) c * 64, 0])
    (hd : ∀ i, d i = peer ⟨b, 3, i⟩ c) (j j' : ℕ) (hj : base b 3 = j) (hj' : base b 3 + nF b = j') :
    Does x w K c (inOrder (List.ofFn fun i => (fam b).step4 i (o₁ i) (h₁ i) (o₂ i) (h₂ i) (d i)))
      iprop((lanes b (await (F := F) c) 2 ∗ lanes b (idle (F := F) c) 3 ∗ runs c b (sum1 x w c b)) ∗ owing (F := F) c j)
      iprop((lanes b (got x w c) 2 ∗ lanes b (sent (F := F) c) 3 ∗ runs c b (sum1 x w c b)) ∗ owing (F := F) c j') := by
  subst hj hj'
  unfold lanes runs
  rw [← bigSep_sep', ← bigSep_sep', ← bigSep_sep', ← bigSep_sep']
  exact Does.loop _ _ _ (fun j => owing (F := F) c (base b 3 + j)) fun i => does_step4 x w K c b i (e₁ i) (e₂ i) (hd i)

theorem does_finishes (out : Memref sig .tc .vmem S64x1024 .f32) {o₁ : Fin (nF b) → Fin 4 → ℕ} {o₂ : Fin (nF b) → Fin 3 → ℕ}
    {o₃ : Fin (nF b) → Fin 2 → ℕ} {h₁ : ∀ i, Inb (o₁ i) ![1, 1, 64, 128] ![nF b, 2, 128, 128]}
    {h₂ : ∀ i, Inb (o₂ i) ![1, 64, 128] ![nF b, 256, 128]} {h₃ : ∀ i, Inb (o₃ i) ![64, 128] ![64, 1024]}
    (e₁ : ∀ i, o₁ i = ![i.val, 1, posOwn (small b i) c * 64, 0]) (e₂ : ∀ i, o₂ i = ![i.val, own (small b i) c * 64, 0])
    (e₃ : ∀ i, o₃ i = ![0, col b i]) (j j' : ℕ) (hc : ∀ i, col b i = j + 128 * i.val) (hj' : j + 128 * nF b = j') :
    Does x w K c (inOrder (List.ofFn fun i => (fam b).finish out i (o₁ i) (h₁ i) (o₂ i) (h₂ i) (o₃ i) (h₃ i)))
      iprop((lanes b (await (F := F) c) 3 ∗ lanes b (got x w c) 2 ∗ runs c b (sum1 x w c b)) ∗ outTo x w c out j ∗ owing (F := F) c 32)
      iprop((lanes b (got x w c) 3 ∗ lanes b (got x w c) 2 ∗ runs c b (sum1 x w c b)) ∗ outTo x w c out j' ∗ owing (F := F) c 32) := by
  subst hj'
  unfold lanes runs
  simp only [← bigSep_sep']
  refine Does.loop _ _ _ (fun q => iprop(outTo x w c out (j + 128 * q) ∗ owing (F := F) c 32)) fun i => ?_
  have h := does_finish x w K c b i out (h₁ := h₁ i) (h₂ := h₂ i) (h₃ := h₃ i) (e₁ i) (e₂ i) (e₃ i)
  rw [hc i] at h
  exact h

theorem does_ends (k : Fin 4) :
    Does x w K c (inOrder (List.ofFn fun i => (stageOf b k).waitSnd i))
      iprop(lanes b (sent (F := F) c) k ∗ owing (F := F) c 32) iprop(lanes b (done x w c) k ∗ owing (F := F) c 32) :=
  Does.loop _ _ _ (fun j => owing (F := F) c 32) fun i => does_sent x w K c ⟨b, k, i⟩

end Phases

end Cert.Butterfly
-- ==== Proof.Run.lean ====
/-
The whole body, from what a device holds before it to what it holds after it.
-/
module

public import proofs.«01_k».proof.Proof.Phases

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Run

variable (x w : Dev nD → ℕ → ℕ → Elt F .f32) (K : Dev nD × Sm → ℕ) (c : Dev nD)
  (xM : Memref sig .tc .vmem S1024x64 .f32) (wM oM : Memref sig .tc .vmem S64x1024 .f32)

/-- The transfers, as the lanes of the four exchanges of the two families. -/
def xferEquiv : (Fin 4 × Fin 2) ⊕ (Fin 4 × Fin 6) ≃ Xfer where
  toFun s := match s with
    | .inl p => ⟨false, p⟩
    | .inr p => ⟨true, p⟩
  invFun t := match t with
    | ⟨false, p⟩ => .inl p
    | ⟨true, p⟩ => .inr p
  left_inv s := by rcases s with p | p <;> rfl
  right_inv t := by obtain ⟨b, p⟩ := t; cases b <;> rfl

theorem bigSep_four (Φ : Fin 4 → sProp (MT nD τ sig Unit (Elt F) ℕ UU ℕ)) : bigSep Finset.univ Φ = iprop(Φ 0 ∗ Φ 1 ∗ Φ 2 ∗ Φ 3) := by
  rw [bigSep_univ_eq_bigSepL [0, 1, 2, 3] (by decide) (by decide) Φ]
  rfl

/-- What is held for every transfer is held for the lanes of every exchange. -/
theorem bigSep_xfer (Φ : Xfer → sProp (MT nD τ sig Unit (Elt F) ℕ UU ℕ)) :
    bigSep Finset.univ Φ = iprop((lanes false Φ 0 ∗ lanes false Φ 1 ∗ lanes false Φ 2 ∗ lanes false Φ 3)
      ∗ (lanes true Φ 0 ∗ lanes true Φ 1 ∗ lanes true Φ 2 ∗ lanes true Φ 3)) := by
  rw [show bigSep Finset.univ Φ = bigSep Finset.univ fun s => Φ (xferEquiv s) from bigSep_univ_equiv xferEquiv Φ, bigSep_univ_sum, bigSep_univ_prod, bigSep_univ_prod, bigSep_four, bigSep_four]
  rfl

theorem xfer_split (Φ : Xfer → sProp (MT nD τ sig Unit (Elt F) ℕ UU ℕ)) :
    bigSep Finset.univ Φ ⊢ iprop((lanes false Φ 0 ∗ lanes false Φ 1 ∗ lanes false Φ 2 ∗ lanes false Φ 3)
      ∗ (lanes true Φ 0 ∗ lanes true Φ 1 ∗ lanes true Φ 2 ∗ lanes true Φ 3)) := by rw [bigSep_xfer]

theorem xfer_join (Φ : Xfer → sProp (MT nD τ sig Unit (Elt F) ℕ UU ℕ)) :
    iprop((lanes false Φ 0 ∗ lanes false Φ 1 ∗ lanes false Φ 2 ∗ lanes false Φ 3)
      ∗ (lanes true Φ 0 ∗ lanes true Φ 1 ∗ lanes true Φ 2 ∗ lanes true Φ 3)) ⊢ bigSep Finset.univ Φ := by rw [bigSep_xfer]

/-- What a device tells its neighbour along one direction: the halves the neighbour's transfers write. -/
def tell (q : Fin 4) : sProp 𝕄 :=
  iprop((bigSep (Finset.univ.filter fun t => dirn t = q) fun t => slotAny (F := F) c t 1) ∗ dutyTok ER (barCell (nbr q c)) 0 q)

/-- What a device holds before the body. -/
def before : sProp 𝕄 :=
  iprop((grid c xM (x c) ∗ grid c wM (w c) ∗ owned (F := F) c oM Finset.univ)
    ∗ (owned (F := F) c (Memref.whole cc0_scratch0) Finset.univ ∗ owned (F := F) c (accOf false) Finset.univ ∗ owned (F := F) c (accOf true) Finset.univ)
    ∗ (runsAny (F := F) c false ∗ runsAny (F := F) c true)
    ∗ (bigSep Finset.univ fun t => slotAny (F := F) c t 0) ∗ (bigSep Finset.univ fun q => tell (F := F) c q)
    ∗ (bigSep Finset.univ fun t => tok (F := F) c t) ∗ (bigSep Finset.univ fun t => await (F := F) c t)
    ∗ (atPos ER (barCell c) 0 ∅ 0 ∗ cred (tallyAt (barCell c) () 4))
    ∗ ∃ W : Waits sig Unit, owes (c : Thread nD τ) (O₀ c) W)

/-- What a device holds after the body. -/
def after : sProp 𝕄 :=
  iprop((grid c xM (x c) ∗ grid c wM (w c) ∗ outTo x w c oM 1024)
    ∗ (owned (F := F) c (Memref.whole cc0_scratch0) Finset.univ ∗ owned (F := F) c (accOf false) Finset.univ ∗ owned (F := F) c (accOf true) Finset.univ)
    ∗ (runsAny (F := F) c false ∗ runsAny (F := F) c true)
    ∗ (bigSep Finset.univ fun t => done x w c t) ∗ (bigSep Finset.univ fun t => got x w c t)
    ∗ semVal (barCell c) 0 ∗ owing (F := F) c 32)

theorem runs_any (b : Bool) (v : (i : Fin (nF b)) → ℕ → ℕ → Elt F .f32) : runs c b v ⊢ runsAny c b :=
  bigSep_mono fun i _ => run_any c b i (v i)

/-- A device tells its four neighbours. -/
theorem does_signals :
    Does x w K c (signals c) iprop((bigSep Finset.univ fun q => tell (F := F) c q) ∗ ∃ W : Waits sig Unit, owes (c : Thread nD τ) (O₀ c) W)
      (owing (F := F) c 0) := by
  intro α k R
  rw [bigSep_four]
  simp only [signals, inOrder, Prog.bind_assoc, Prog.pure_eq_ret, Prog.bind_ret]
  unfold tell O₀
  iintro ⟨#He, ⟨⟨H0, T0⟩, ⟨H1, T1⟩, ⟨H2, T2⟩, H3, T3⟩, %W, HO⟩ Hk
  iapply (wp_signal_nbr x w K c 0 (devBar c 0) (devBar_eq c 0) (owedFrom c 0 + owedBar c 3 + owedBar c 2 + owedBar c 1) W) $$ [H0 T0 HO]
  · isplitr; · iexact He
    isplitl [H0]; · iexact H0
    isplitl [T0] <;> iassumption
  iintro HO
  iapply (wp_signal_nbr x w K c 1 (devBar c 1) (devBar_eq c 1) (owedFrom c 0 + owedBar c 3 + owedBar c 2) W) $$ [H1 T1 HO]
  · isplitr; · iexact He
    isplitl [H1]; · iexact H1
    isplitl [T1] <;> iassumption
  iintro HO
  iapply (wp_signal_nbr x w K c 2 (devBar c 2) (devBar_eq c 2) (owedFrom c 0 + owedBar c 3) W) $$ [H2 T2 HO]
  · isplitr; · iexact He
    isplitl [H2]; · iexact H2
    isplitl [T2] <;> iassumption
  iintro HO
  iapply (wp_signal_nbr x w K c 3 (devBar c 3) (devBar_eq c 3) (owedFrom c 0) W) $$ [H3 T3 HO]
  · isplitr; · iexact He
    isplitl [H3]; · iexact H3
    isplitl [T3] <;> iassumption
  iintro HO
  iapply Hk
  unfold owing
  iexists W
  iexact HO

theorem does_barrier :
    Does x w K c (semWaitWord barSem 4#32) iprop(atPos ER (barCell c) 0 ∅ 0 ∗ cred (tallyAt (barCell c) () 4) ∗ owing (F := F) c 0)
      iprop(semVal (barCell c) 0 ∗ owing (F := F) c 0 ∗ bigSep Finset.univ fun t => slotAny (F := F) (peer t c) t 1) :=
  fun α k R => wp_barrier x w K c

/-- The next of a list of programs. -/
theorem wp_next {p : Code F} {ps : List (Code F)} {α : Type} {k : PUnit → Prog (TpuEff nD τ sig (Elt F) Λ₀ .tc) α}
    {R : α → sProp (MT nD τ sig Unit (Elt F) ℕ UU ℕ)} :
    wpc c (p >>= fun _ => inOrder ps >>= k) R ⊢ wpc c (inOrder (p :: ps) >>= k) R := by
  simp only [inOrder, Prog.bind_assoc]
  exact .rfl

/-- Before any transfer, every transfer is still to be made. -/
theorem idles :
    iprop((bigSep Finset.univ fun t => slotAny (F := F) c t 0) ∗ (bigSep Finset.univ fun t => slotAny (F := F) (peer t c) t 1)
      ∗ bigSep Finset.univ fun t => tok (F := F) c t) ⊢ bigSep Finset.univ (idle (F := F) c) := by
  unfold idle
  rw [bigSep_sep', bigSep_sep']

theorem outTo_zero : owned (F := F) c oM Finset.univ ⊢ outTo x w c oM 0 := by
  unfold owned outTo
  iintro ⟨%f, H⟩
  iexists f
  isplitr
  · ipureintro
    intro y hy
    exact absurd hy (Nat.not_lt_zero _)
  iexact H

theorem col_zero (i : Fin 6) : (![0, 128 * i.val] : Fin 2 → ℕ) = ![0, col true i] := rfl
theorem col_one (i : Fin 2) : (![0, 768 + 128 * i.val] : Fin 2 → ℕ) = ![0, col false i] := rfl
theorem col_at (i : Fin 6) : col true i = 0 + 128 * i.val := (Nat.zero_add _).symm

/-- The body, from what a device holds before it to what it holds after it. -/
theorem does_phases : Does x w K c (inOrder ((bufs xM wM oM).phases c)) (before x w c xM wM oM) (after x w c xM wM oM) := by
  intro α k R
  unfold before
  iintro ⟨#He, ⟨Hx, Hw, Ho⟩, ⟨Hp, HaB, HaA⟩, ⟨HrB, HrA⟩, Hs, Ht, Hk, Hv, ⟨Hb, Hc⟩, HO⟩ HR
  unfold Bufs.phases
  iapply (wp_next c)
  iapply (does_signals x w K c _ _ _) $$ [Ht HO]
  · isplitr; · iexact He
    isplitl [Ht]; · iexact Ht
    iexact HO
  iintro HO
  iapply (wp_next c)
  iapply (does_prodB x w K c xM wM oM _ _ _) $$ [Hx Hw HaB]
  · isplitr; · iexact He
    isplitl [Hx]; · iexact Hx
    isplitl [Hw]; · iexact Hw
    iexact HaB
  iintro ⟨Hx, Hw, HaB⟩
  iapply (wp_next c)
  iapply (does_barrier x w K c _ _ _) $$ [Hb Hc HO]
  · isplitr; · iexact He
    isplitl [Hb]; · iexact Hb
    isplitl [Hc]; · iexact Hc
    iexact HO
  iintro ⟨Hb, HO, Hd⟩
  ihave Hi := (idles c) $$ [Hs Hd Hk]
  · isplitl [Hs]; · iexact Hs
    isplitl [Hd] <;> iassumption
  ihave Hi := (xfer_split (idle c)) $$ Hi
  ihave Hv := (xfer_split (await c)) $$ Hv
  icases Hi with ⟨⟨HiB0, HiB1, HiB2, HiB3⟩, HiA0, HiA1, HiA2, HiA3⟩
  icases Hv with ⟨⟨HvB0, HvB1, HvB2, HvB3⟩, HvA0, HvA1, HvA2, HvA3⟩
  iapply (wp_next c)
  iapply (Does.each2 (does_all1 x w K c false (offB1a_eq c) (offB1b_eq c) (devB1_eq c) 0 2 rfl rfl) _ _ _) $$ [HiB0 HaB HO]
  · isplitr; · iexact He
    isplitl [HiB0]; · iexact HiB0
    isplitl [HaB]; · iexact HaB
    iexact HO
  iintro ⟨HiB0, HaB, HO⟩
  iapply (wp_next c)
  iapply (does_copies x w K c xM wM oM _ _ _) $$ [Hx Hp]
  · isplitr; · iexact He
    isplitl [Hx]; · iexact Hx
    iexact Hp
  iintro ⟨Hx, Hp⟩
  iapply (wp_next c)
  iapply (does_prodsA x w K c xM wM oM _ _ _) $$ [Hp Hw HaA]
  · isplitr; · iexact He
    isplitl [Hp]; · iexact Hp
    isplitl [Hw]; · iexact Hw
    iexact HaA
  iintro ⟨Hp, Hw, HaA⟩
  iapply (wp_next c)
  iapply (Does.each6 (does_all1 x w K c true (offA1a_eq c) (offA1b_eq c) (devA1_eq c) 2 8 rfl rfl) _ _ _) $$ [HiA0 HaA HO]
  · isplitr; · iexact He
    isplitl [HiA0]; · iexact HiA0
    isplitl [HaA]; · iexact HaA
    iexact HO
  iintro ⟨HiA0, HaA, HO⟩
  iapply (wp_next c)
  iapply (Does.each2 (does_all2 x w K c false (offB2a_eq c) (offB2b_eq c) (devB2_eq c) 8 10 rfl rfl) _ _ _) $$ [HvB0 HiB1 HaB HO]
  · isplitr; · iexact He
    isplitl [HvB0 HiB1]
    · isplitl [HvB0]; · iexact HvB0
      iexact HiB1
    isplitl [HaB]; · iexact HaB
    iexact HO
  iintro ⟨⟨HvB0, HiB1⟩, HaB, HO⟩
  iapply (wp_next c)
  iapply (Does.each6 (does_all2 x w K c true (offA2a_eq c) (offA2b_eq c) (devA2_eq c) 10 16 rfl rfl) _ _ _) $$ [HvA0 HiA1 HaA HO]
  · isplitr; · iexact He
    isplitl [HvA0 HiA1]
    · isplitl [HvA0]; · iexact HvA0
      iexact HiA1
    isplitl [HaA]; · iexact HaA
    iexact HO
  iintro ⟨⟨HvA0, HiA1⟩, HaA, HO⟩
  iapply (wp_next c)
  iapply (Does.each2 (does_starts x w K c false (offB0a_eq c) (offB0b_eq c)) _ _ _) $$ [HvB0 HrB HaB]
  · isplitr; · iexact He
    isplitl [HvB0 HrB]
    · isplitl [HvB0]; · iexact HvB0
      iexact HrB
    iexact HaB
  iintro ⟨⟨HvB0, HrB⟩, HaB⟩
  iapply (wp_next c)
  iapply (Does.each6 (does_starts x w K c true (offA0a_eq c) (offA0b_eq c)) _ _ _) $$ [HvA0 HrA HaA]
  · isplitr; · iexact He
    isplitl [HvA0 HrA]
    · isplitl [HvA0]; · iexact HvA0
      iexact HrA
    iexact HaA
  iintro ⟨⟨HvA0, HrA⟩, HaA⟩
  iapply (wp_next c)
  iapply (Does.each2 (does_all3 x w K c false (offB3a_eq c) (offB3b_eq c) (offB3c_eq c) (offB3d_eq c) (devB3_eq c) 16 18 rfl rfl) _ _ _) $$ [HvB1 HiB2 HrB HO]
  · isplitr; · iexact He
    isplitl [HvB1 HiB2 HrB]
    · isplitl [HvB1]; · iexact HvB1
      isplitl [HiB2]; · iexact HiB2
      iexact HrB
    iexact HO
  iintro ⟨⟨HvB1, HiB2, HrB⟩, HO⟩
  iapply (wp_next c)
  iapply (Does.each6 (does_all3 x w K c true (offA3a_eq c) (offA3b_eq c) (offA3c_eq c) (offA3d_eq c) (devA3_eq c) 18 24 rfl rfl) _ _ _) $$ [HvA1 HiA2 HrA HO]
  · isplitr; · iexact He
    isplitl [HvA1 HiA2 HrA]
    · isplitl [HvA1]; · iexact HvA1
      isplitl [HiA2]; · iexact HiA2
      iexact HrA
    iexact HO
  iintro ⟨⟨HvA1, HiA2, HrA⟩, HO⟩
  iapply (wp_next c)
  iapply (Does.each2 (does_grows x w K c false) _ _ _) $$ [HvB1 HrB]
  · isplitr; · iexact He
    isplitl [HvB1]; · iexact HvB1
    iexact HrB
  iintro ⟨HvB1, HrB⟩
  iapply (wp_next c)
  iapply (Does.each6 (does_grows x w K c true) _ _ _) $$ [HvA1 HrA]
  · isplitr; · iexact He
    isplitl [HvA1]; · iexact HvA1
    iexact HrA
  iintro ⟨HvA1, HrA⟩
  iapply (wp_next c)
  iapply (Does.each6 (does_all4 x w K c true (offA4a_eq c) (offA4b_eq c) (devA4_eq c) 24 30 rfl rfl) _ _ _) $$ [HvA2 HiA3 HrA HO]
  · isplitr; · iexact He
    isplitl [HvA2 HiA3 HrA]
    · isplitl [HvA2]; · iexact HvA2
      isplitl [HiA3]; · iexact HiA3
      iexact HrA
    iexact HO
  iintro ⟨⟨HvA2, HiA3, HrA⟩, HO⟩
  iapply (wp_next c)
  iapply (Does.each2 (does_all4 x w K c false (offB4a_eq c) (offB4b_eq c) (devB4_eq c) 30 32 rfl rfl) _ _ _) $$ [HvB2 HiB3 HrB HO]
  · isplitr; · iexact He
    isplitl [HvB2 HiB3 HrB]
    · isplitl [HvB2]; · iexact HvB2
      isplitl [HiB3]; · iexact HiB3
      iexact HrB
    iexact HO
  iintro ⟨⟨HvB2, HiB3, HrB⟩, HO⟩
  ihave Ho := (outTo_zero x w c oM) $$ Ho
  iapply (wp_next c)
  iapply (Does.each6 (does_finishes x w K c true oM (offA5a_eq c) (offA5b_eq c) (col_zero) 0 768 col_at rfl) _ _ _) $$ [HvA3 HvA2 HrA Ho HO]
  · isplitr; · iexact He
    isplitl [HvA3 HvA2 HrA]
    · isplitl [HvA3]; · iexact HvA3
      isplitl [HvA2]; · iexact HvA2
      iexact HrA
    isplitl [Ho]; · iexact Ho
    iexact HO
  iintro ⟨⟨HvA3, HvA2, HrA⟩, Ho, HO⟩
  iapply (wp_next c)
  iapply (Does.each2 (does_finishes x w K c false oM (offB5a_eq c) (offB5b_eq c) (col_one) 768 1024 (fun _ => rfl) rfl) _ _ _) $$ [HvB3 HvB2 HrB Ho HO]
  · isplitr; · iexact He
    isplitl [HvB3 HvB2 HrB]
    · isplitl [HvB3]; · iexact HvB3
      isplitl [HvB2]; · iexact HvB2
      iexact HrB
    isplitl [Ho]; · iexact Ho
    iexact HO
  iintro ⟨⟨HvB3, HvB2, HrB⟩, Ho, HO⟩
  iapply (wp_next c)
  iapply (Does.each2 (does_ends x w K c false 0) _ _ _) $$ [HiB0 HO]
  · isplitr; · iexact He
    isplitl [HiB0]; · iexact HiB0
    iexact HO
  iintro ⟨HiB0, HO⟩
  iapply (wp_next c)
  iapply (Does.each6 (does_ends x w K c true 0) _ _ _) $$ [HiA0 HO]
  · isplitr; · iexact He
    isplitl [HiA0]; · iexact HiA0
    iexact HO
  iintro ⟨HiA0, HO⟩
  iapply (wp_next c)
  iapply (Does.each2 (does_ends x w K c false 1) _ _ _) $$ [HiB1 HO]
  · isplitr; · iexact He
    isplitl [HiB1]; · iexact HiB1
    iexact HO
  iintro ⟨HiB1, HO⟩
  iapply (wp_next c)
  iapply (Does.each6 (does_ends x w K c true 1) _ _ _) $$ [HiA1 HO]
  · isplitr; · iexact He
    isplitl [HiA1]; · iexact HiA1
    iexact HO
  iintro ⟨HiA1, HO⟩
  iapply (wp_next c)
  iapply (Does.each2 (does_ends x w K c false 2) _ _ _) $$ [HiB2 HO]
  · isplitr; · iexact He
    isplitl [HiB2]; · iexact HiB2
    iexact HO
  iintro ⟨HiB2, HO⟩
  iapply (wp_next c)
  iapply (Does.each6 (does_ends x w K c true 2) _ _ _) $$ [HiA2 HO]
  · isplitr; · iexact He
    isplitl [HiA2]; · iexact HiA2
    iexact HO
  iintro ⟨HiA2, HO⟩
  iapply (wp_next c)
  iapply (Does.each6 (does_ends x w K c true 3) _ _ _) $$ [HiA3 HO]
  · isplitr; · iexact He
    isplitl [HiA3]; · iexact HiA3
    iexact HO
  iintro ⟨HiA3, HO⟩
  iapply (wp_next c)
  iapply (Does.each2 (does_ends x w K c false 3) _ _ _) $$ [HiB3 HO]
  · isplitr; · iexact He
    isplitl [HiB3]; · iexact HiB3
    iexact HO
  iintro ⟨HiB3, HO⟩
  simp only [inOrder, Prog.pure_eq_ret, Prog.bind_ret]
  ihave Hp := (grid_any c _ _) $$ Hp
  ihave HaA := (grid_any c _ _) $$ HaA
  ihave HaB := (grid_any c _ _) $$ HaB
  ihave HrA := (runs_any c true _) $$ HrA
  ihave HrB := (runs_any c false _) $$ HrB
  iapply HR
  unfold after
  isplitl [Hx Hw Ho]
  · isplitl [Hx]; · iexact Hx
    isplitl [Hw] <;> iassumption
  isplitl [Hp HaA HaB]
  · isplitl [Hp]; · iexact Hp
    isplitl [HaB] <;> iassumption
  isplitl [HrA HrB]
  · isplitl [HrB] <;> iassumption
  isplitl [HiA0 HiA1 HiA2 HiA3 HiB0 HiB1 HiB2 HiB3]
  · iapply (xfer_join (done x w c))
    isplitl [HiB0 HiB1 HiB2 HiB3]
    · isplitl [HiB0]; · iexact HiB0
      isplitl [HiB1]; · iexact HiB1
      isplitl [HiB2] <;> iassumption
    isplitl [HiA0]; · iexact HiA0
    isplitl [HiA1]; · iexact HiA1
    isplitl [HiA2] <;> iassumption
  isplitl [HvA0 HvA1 HvA2 HvA3 HvB0 HvB1 HvB2 HvB3]
  · iapply (xfer_join (got x w c))
    isplitl [HvB0 HvB1 HvB2 HvB3]
    · isplitl [HvB0]; · iexact HvB0
      isplitl [HvB1]; · iexact HvB1
      isplitl [HvB2] <;> iassumption
    isplitl [HvA0]; · iexact HvA0
    isplitl [HvA1]; · iexact HvA1
    isplitl [HvA2] <;> iassumption
  isplitl [Hb] <;> iassumption

end Run

end Cert.Butterfly
-- ==== Proof.Scratch.lean ====
/-
The scratch buffers a device holds when the kernel starts and ends, as the halves of the lanes.
-/
module

public import proofs.«01_k».proof.Proof.Run

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Owned

variable {s : Shape} {e : EltTy} (c : Dev nD) (M : Memref sig .tc .vmem s e)

/-- Indices that split into parts are held part by part, whatever they read. -/
theorem owned_parts {T : Type} [DecidableEq T] [Fintype T] (K : T → Finset s.Idx) (S : Finset s.Idx) (hS : ∀ x, x ∈ S ↔ ∃ t, x ∈ K t)
    (hd : ∀ t t', t ≠ t' → Disjoint (K t) (K t')) : owned (F := F) c M S ⊢ bigSep Finset.univ fun t => owned (F := F) c M (K t) := by
  unfold owned
  iintro ⟨%f, H⟩
  have hm : (bigSep Finset.univ fun t => held c M (K t) f) ⊢ bigSep Finset.univ fun t => (iprop(∃ f, held c M (K t) f) : sProp 𝕄) :=
    bigSep_mono fun t _ => held_owned c M (K t) f
  iapply ((held_parts c M K S hS hd f).trans hm) $$ H

/-- and back. -/
theorem owned_join {T : Type} [DecidableEq T] [Fintype T] (K : T → Finset s.Idx) (S : Finset s.Idx) (hS : ∀ x, x ∈ S ↔ ∃ t, x ∈ K t)
    (hd : ∀ t t', t ≠ t' → Disjoint (K t) (K t')) :
    (bigSep Finset.univ fun t => owned (F := F) c M (K t)) ⊢ owned (F := F) c M S := by
  classical
  haveI : Inhabited (Elt F e) := Elt.inhabited F e
  haveI : Inhabited (Buf (Elt F) (M.view.loc (c : Thread nD τ))) := ⟨fun _ => (Elt.inhabited F _).default⟩
  unfold owned
  iintro H
  ihave H := (bigSep_exists_pi Finset.univ _) $$ H
  icases H with ⟨%fs, H⟩
  let f : s.Idx → Elt F e := fun x => if h : ∃ t, x ∈ K t then fs h.choose x else default
  have hm : (bigSep Finset.univ fun t => held c M (K t) (fs t)) ⊢ bigSep Finset.univ fun t => held c M (K t) f := by
    refine bigSep_mono fun t _ => held_congr c M fun x hx => ?_
    have h : ∃ t, x ∈ K t := ⟨t, hx⟩
    show fs t x = if h : ∃ t, x ∈ K t then fs h.choose x else default
    rw [dif_pos h]
    by_cases ht : t = h.choose
    · rw [← ht]
    · exact absurd h.choose_spec (Finset.disjoint_left.mp (hd t _ ht) hx)
  iexists f
  iapply (hm.trans (held_whole c M K S hS hd f)) $$ H

end Owned

section Whole

variable (c : Dev nD)

/-- A buffer held by its name is held at all its indices. -/
theorem whole_in {s : Shape} {e : EltTy} (M : Memref sig .tc .vmem s e) (hM : M.view.set = Finset.univ) :
    iprop(∃ f : Buf (Elt F) (M.view.loc (c : Thread nD τ)), (M.view.loc (c : Thread nD τ)) ↦{fullShare} f) ⊢ owned (F := F) c M Finset.univ := by
  unfold owned held
  rw [View.setOn_univ, hM]
  iintro ⟨%g, H⟩
  iexists fun x => M.view.read (Elt F) g x
  iexists g
  isplitr
  · ipureintro
    exact fun _ _ => rfl
  iexact H

/-- and back. -/
theorem whole_out {s : Shape} {e : EltTy} (M : Memref sig .tc .vmem s e) (hM : M.view.set = Finset.univ) :
    owned (F := F) c M Finset.univ ⊢ iprop(∃ f : Buf (Elt F) (M.view.loc (c : Thread nD τ)), (M.view.loc (c : Thread nD τ)) ↦{fullShare} f) := by
  unfold owned held
  rw [View.setOn_univ, hM]
  iintro ⟨%f, %g, %hg, H⟩
  iexists g
  iexact H

theorem accOf_set : ∀ b, (accOf b).view.set = Finset.univ
  | true => View.set_whole _
  | false => View.set_whole _

theorem runOf_set : ∀ b, (runOf b).view.set = Finset.univ
  | true => View.set_whole _
  | false => View.set_whole _

theorem stageOf_set : ∀ b k, (stageOf b k).buf.view.set = Finset.univ
  | true, 0 => View.set_whole _
  | true, 1 => View.set_whole _
  | true, 2 => View.set_whole _
  | true, 3 => View.set_whole _
  | false, 0 => View.set_whole _
  | false, 1 => View.set_whole _
  | false, 2 => View.set_whole _
  | false, 3 => View.set_whole _

/-! ### A buffer of sums is its lanes, a buffer of an exchange the halves of its lanes -/

theorem runs_cover (b : Bool) (y : (⟨3, ![nF b, 256, 128]⟩ : Shape).Idx) : y ∈ Finset.univ ↔ ∃ i, y ∈ runElems b i :=
  ⟨fun _ => ⟨⟨(y 0).val, (y 0).isLt⟩, (mem_runElems b _ y).mpr rfl⟩, fun _ => Finset.mem_univ _⟩

theorem runs_disjoint (b : Bool) (i j : Fin (nF b)) (h : i ≠ j) : Disjoint (runElems b i) (runElems b j) :=
  Finset.disjoint_left.mpr fun y hi hj => h (Fin.ext (((mem_runElems b i y).mp hi).symm.trans ((mem_runElems b j y).mp hj)))

theorem runs_in (b : Bool) : owned (F := F) c (runOf b) Finset.univ ⊢ runsAny (F := F) c b :=
  owned_parts c (runOf b) (runElems b) Finset.univ (runs_cover b) (runs_disjoint b)

theorem runs_out (b : Bool) : runsAny (F := F) c b ⊢ owned (F := F) c (runOf b) Finset.univ :=
  owned_join c (runOf b) (runElems b) Finset.univ (runs_cover b) (runs_disjoint b)

/-- The elements of a half of a lane of an exchange. -/
abbrev halfElems (b : Bool) (k : Fin 4) (p : Fin 2 × Fin (nF b)) : Finset (⟨4, ![nF b, 2, rows k, 128]⟩ : Shape).Idx := elems ⟨b, k, p.2⟩ p.1

theorem halves_cover (b : Bool) (k : Fin 4) (y : (⟨4, ![nF b, 2, rows k, 128]⟩ : Shape).Idx) :
    y ∈ Finset.univ ↔ ∃ p, y ∈ halfElems b k p :=
  ⟨fun _ => ⟨(⟨(y 1).val, (y 1).isLt⟩, ⟨(y 0).val, (y 0).isLt⟩), (mem_elems ⟨b, k, ⟨(y 0).val, (y 0).isLt⟩⟩ ⟨(y 1).val, (y 1).isLt⟩ y).mpr ⟨rfl, rfl⟩⟩,
    fun _ => Finset.mem_univ _⟩

theorem halves_disjoint (b : Bool) (k : Fin 4) (p q : Fin 2 × Fin (nF b)) (h : p ≠ q) : Disjoint (halfElems b k p) (halfElems b k q) :=
  Finset.disjoint_left.mpr fun y hp hq => h (by
    have h1 := (mem_elems ⟨b, k, p.2⟩ p.1 y).mp hp
    have h2 := (mem_elems ⟨b, k, q.2⟩ q.1 y).mp hq
    exact Prod.ext (Fin.ext (h1.2.symm.trans h2.2)) (Fin.ext (h1.1.symm.trans h2.1)))

theorem halves_split (b : Bool) (k : Fin 4) :
    (bigSep Finset.univ fun p : Fin 2 × Fin (nF b) => owned (F := F) c (stageOf b k).buf (halfElems b k p))
      = iprop(lanes b (fun t => slotAny (F := F) c t 0) k ∗ lanes b (fun t => slotAny (F := F) c t 1) k) := by
  rw [bigSep_univ_prod, bigSep_fin_two]
  rfl

theorem halves_in (b : Bool) (k : Fin 4) : owned (F := F) c (stageOf b k).buf Finset.univ
    ⊢ iprop(lanes b (fun t => slotAny (F := F) c t 0) k ∗ lanes b (fun t => slotAny (F := F) c t 1) k) :=
  (owned_parts c (stageOf b k).buf (halfElems b k) Finset.univ (halves_cover b k) (halves_disjoint b k)).trans (Entails.of_eq (halves_split c b k))

theorem halves_out (b : Bool) (k : Fin 4) :
    iprop(lanes b (fun t => slotAny (F := F) c t 0) k ∗ lanes b (fun t => slotAny (F := F) c t 1) k) ⊢ owned (F := F) c (stageOf b k).buf Finset.univ :=
  (Entails.of_eq (halves_split c b k).symm).trans (owned_join c (stageOf b k).buf (halfElems b k) Finset.univ (halves_cover b k) (halves_disjoint b k))

/-! ### All of them -/

/-- The scratch buffers, as the body holds them. -/
def scratch : sProp 𝕄 :=
  iprop((owned (F := F) c (Memref.whole cc0_scratch0) Finset.univ ∗ owned (F := F) c (accOf false) Finset.univ ∗ owned (F := F) c (accOf true) Finset.univ)
    ∗ (runsAny (F := F) c false ∗ runsAny (F := F) c true)
    ∗ (bigSep Finset.univ fun t => slotAny (F := F) c t 0) ∗ (bigSep Finset.univ fun t => slotAny (F := F) c t 1))

theorem xp_in : iprop(∃ f : Buf (Elt F) ((c : Thread nD τ).loc cc0_scratch0), ((c : Thread nD τ).loc cc0_scratch0) ↦{fullShare} f) ⊢ owned (F := F) c (Memref.whole cc0_scratch0) Finset.univ := whole_in c (Memref.whole cc0_scratch0) (View.set_whole _)

theorem xp_out : owned (F := F) c (Memref.whole cc0_scratch0) Finset.univ ⊢ iprop(∃ f : Buf (Elt F) ((c : Thread nD τ).loc cc0_scratch0), ((c : Thread nD τ).loc cc0_scratch0) ↦{fullShare} f) := whole_out c (Memref.whole cc0_scratch0) (View.set_whole _)

theorem aA_in : iprop(∃ f : Buf (Elt F) ((c : Thread nD τ).loc cc0_scratch1), ((c : Thread nD τ).loc cc0_scratch1) ↦{fullShare} f) ⊢ owned (F := F) c (accOf true) Finset.univ := whole_in c (accOf true) (accOf_set _)

theorem aA_out : owned (F := F) c (accOf true) Finset.univ ⊢ iprop(∃ f : Buf (Elt F) ((c : Thread nD τ).loc cc0_scratch1), ((c : Thread nD τ).loc cc0_scratch1) ↦{fullShare} f) := whole_out c (accOf true) (accOf_set _)

theorem aB_in : iprop(∃ f : Buf (Elt F) ((c : Thread nD τ).loc cc0_scratch2), ((c : Thread nD τ).loc cc0_scratch2) ↦{fullShare} f) ⊢ owned (F := F) c (accOf false) Finset.univ := whole_in c (accOf false) (accOf_set _)

theorem aB_out : owned (F := F) c (accOf false) Finset.univ ⊢ iprop(∃ f : Buf (Elt F) ((c : Thread nD τ).loc cc0_scratch2), ((c : Thread nD τ).loc cc0_scratch2) ↦{fullShare} f) := whole_out c (accOf false) (accOf_set _)

theorem sA0_in : iprop(∃ f : Buf (Elt F) ((c : Thread nD τ).loc cc0_scratch3), ((c : Thread nD τ).loc cc0_scratch3) ↦{fullShare} f) ⊢ owned (F := F) c (stageOf true 0).buf Finset.univ := whole_in c (stageOf true 0).buf (stageOf_set _ _)

theorem sA0_out : owned (F := F) c (stageOf true 0).buf Finset.univ ⊢ iprop(∃ f : Buf (Elt F) ((c : Thread nD τ).loc cc0_scratch3), ((c : Thread nD τ).loc cc0_scratch3) ↦{fullShare} f) := whole_out c (stageOf true 0).buf (stageOf_set _ _)

theorem sA1_in : iprop(∃ f : Buf (Elt F) ((c : Thread nD τ).loc cc0_scratch4), ((c : Thread nD τ).loc cc0_scratch4) ↦{fullShare} f) ⊢ owned (F := F) c (stageOf true 1).buf Finset.univ := whole_in c (stageOf true 1).buf (stageOf_set _ _)

theorem sA1_out : owned (F := F) c (stageOf true 1).buf Finset.univ ⊢ iprop(∃ f : Buf (Elt F) ((c : Thread nD τ).loc cc0_scratch4), ((c : Thread nD τ).loc cc0_scratch4) ↦{fullShare} f) := whole_out c (stageOf true 1).buf (stageOf_set _ _)

theorem rA_in : iprop(∃ f : Buf (Elt F) ((c : Thread nD τ).loc cc0_scratch5), ((c : Thread nD τ).loc cc0_scratch5) ↦{fullShare} f) ⊢ owned (F := F) c (runOf true) Finset.univ := whole_in c (runOf true) (runOf_set _)

theorem rA_out : owned (F := F) c (runOf true) Finset.univ ⊢ iprop(∃ f : Buf (Elt F) ((c : Thread nD τ).loc cc0_scratch5), ((c : Thread nD τ).loc cc0_scratch5) ↦{fullShare} f) := whole_out c (runOf true) (runOf_set _)

theorem sA2_in : iprop(∃ f : Buf (Elt F) ((c : Thread nD τ).loc cc0_scratch6), ((c : Thread nD τ).loc cc0_scratch6) ↦{fullShare} f) ⊢ owned (F := F) c (stageOf true 2).buf Finset.univ := whole_in c (stageOf true 2).buf (stageOf_set _ _)

theorem sA2_out : owned (F := F) c (stageOf true 2).buf Finset.univ ⊢ iprop(∃ f : Buf (Elt F) ((c : Thread nD τ).loc cc0_scratch6), ((c : Thread nD τ).loc cc0_scratch6) ↦{fullShare} f) := whole_out c (stageOf true 2).buf (stageOf_set _ _)

theorem sA3_in : iprop(∃ f : Buf (Elt F) ((c : Thread nD τ).loc cc0_scratch7), ((c : Thread nD τ).loc cc0_scratch7) ↦{fullShare} f) ⊢ owned (F := F) c (stageOf true 3).buf Finset.univ := whole_in c (stageOf true 3).buf (stageOf_set _ _)

theorem sA3_out : owned (F := F) c (stageOf true 3).buf Finset.univ ⊢ iprop(∃ f : Buf (Elt F) ((c : Thread nD τ).loc cc0_scratch7), ((c : Thread nD τ).loc cc0_scratch7) ↦{fullShare} f) := whole_out c (stageOf true 3).buf (stageOf_set _ _)

theorem sB0_in : iprop(∃ f : Buf (Elt F) ((c : Thread nD τ).loc cc0_scratch8), ((c : Thread nD τ).loc cc0_scratch8) ↦{fullShare} f) ⊢ owned (F := F) c (stageOf false 0).buf Finset.univ := whole_in c (stageOf false 0).buf (stageOf_set _ _)

theorem sB0_out : owned (F := F) c (stageOf false 0).buf Finset.univ ⊢ iprop(∃ f : Buf (Elt F) ((c : Thread nD τ).loc cc0_scratch8), ((c : Thread nD τ).loc cc0_scratch8) ↦{fullShare} f) := whole_out c (stageOf false 0).buf (stageOf_set _ _)

theorem sB1_in : iprop(∃ f : Buf (Elt F) ((c : Thread nD τ).loc cc0_scratch9), ((c : Thread nD τ).loc cc0_scratch9) ↦{fullShare} f) ⊢ owned (F := F) c (stageOf false 1).buf Finset.univ := whole_in c (stageOf false 1).buf (stageOf_set _ _)

theorem sB1_out : owned (F := F) c (stageOf false 1).buf Finset.univ ⊢ iprop(∃ f : Buf (Elt F) ((c : Thread nD τ).loc cc0_scratch9), ((c : Thread nD τ).loc cc0_scratch9) ↦{fullShare} f) := whole_out c (stageOf false 1).buf (stageOf_set _ _)

theorem rB_in : iprop(∃ f : Buf (Elt F) ((c : Thread nD τ).loc cc0_scratch10), ((c : Thread nD τ).loc cc0_scratch10) ↦{fullShare} f) ⊢ owned (F := F) c (runOf false) Finset.univ := whole_in c (runOf false) (runOf_set _)

theorem rB_out : owned (F := F) c (runOf false) Finset.univ ⊢ iprop(∃ f : Buf (Elt F) ((c : Thread nD τ).loc cc0_scratch10), ((c : Thread nD τ).loc cc0_scratch10) ↦{fullShare} f) := whole_out c (runOf false) (runOf_set _)

theorem sB2_in : iprop(∃ f : Buf (Elt F) ((c : Thread nD τ).loc cc0_scratch11), ((c : Thread nD τ).loc cc0_scratch11) ↦{fullShare} f) ⊢ owned (F := F) c (stageOf false 2).buf Finset.univ := whole_in c (stageOf false 2).buf (stageOf_set _ _)

theorem sB2_out : owned (F := F) c (stageOf false 2).buf Finset.univ ⊢ iprop(∃ f : Buf (Elt F) ((c : Thread nD τ).loc cc0_scratch11), ((c : Thread nD τ).loc cc0_scratch11) ↦{fullShare} f) := whole_out c (stageOf false 2).buf (stageOf_set _ _)

theorem sB3_in : iprop(∃ f : Buf (Elt F) ((c : Thread nD τ).loc cc0_scratch12), ((c : Thread nD τ).loc cc0_scratch12) ↦{fullShare} f) ⊢ owned (F := F) c (stageOf false 3).buf Finset.univ := whole_in c (stageOf false 3).buf (stageOf_set _ _)

theorem sB3_out : owned (F := F) c (stageOf false 3).buf Finset.univ ⊢ iprop(∃ f : Buf (Elt F) ((c : Thread nD τ).loc cc0_scratch12), ((c : Thread nD τ).loc cc0_scratch12) ↦{fullShare} f) := whole_out c (stageOf false 3).buf (stageOf_set _ _)

theorem scratch_in : Pipeline.scopedRest (Ix := Unit) (Name := ℕ) (U := UU) (Lvl := ℕ) (Val := Elt F) cfg0.spec c ⊢ scratch (F := F) c := by
  rw [show (Pipeline.scopedRest (Ix := Unit) (Name := ℕ) (U := UU) (Lvl := ℕ) (Val := Elt F) cfg0.spec c : sProp 𝕄) = _ from scopedRest0_eq c]
  unfold scratch
  iintro ⟨xp, aA, aB, sA0, sA1, rA, sA2, sA3, sB0, sB1, rB, sB2, sB3⟩
  ihave xp := (xp_in c) $$ xp
  ihave aA := (aA_in c) $$ aA
  ihave aB := (aB_in c) $$ aB
  ihave sA0 := ((sA0_in c).trans (halves_in c _ _)) $$ sA0
  icases sA0 with ⟨sA0, tA0⟩
  ihave sA1 := ((sA1_in c).trans (halves_in c _ _)) $$ sA1
  icases sA1 with ⟨sA1, tA1⟩
  ihave rA := ((rA_in c).trans (runs_in c _)) $$ rA
  ihave sA2 := ((sA2_in c).trans (halves_in c _ _)) $$ sA2
  icases sA2 with ⟨sA2, tA2⟩
  ihave sA3 := ((sA3_in c).trans (halves_in c _ _)) $$ sA3
  icases sA3 with ⟨sA3, tA3⟩
  ihave sB0 := ((sB0_in c).trans (halves_in c _ _)) $$ sB0
  icases sB0 with ⟨sB0, tB0⟩
  ihave sB1 := ((sB1_in c).trans (halves_in c _ _)) $$ sB1
  icases sB1 with ⟨sB1, tB1⟩
  ihave rB := ((rB_in c).trans (runs_in c _)) $$ rB
  ihave sB2 := ((sB2_in c).trans (halves_in c _ _)) $$ sB2
  icases sB2 with ⟨sB2, tB2⟩
  ihave sB3 := ((sB3_in c).trans (halves_in c _ _)) $$ sB3
  icases sB3 with ⟨sB3, tB3⟩
  isplitl [xp aA aB]
  · isplitl [xp]; · iexact xp
    isplitl [aB] <;> iassumption
  isplitl [rA rB]
  · isplitl [rB] <;> iassumption
  isplitl [sB0 sB1 sB2 sB3 sA0 sA1 sA2 sA3]
  · iapply (xfer_join fun t => slotAny (F := F) c t 0)
    isplitl [sB0 sB1 sB2 sB3]
    · isplitl [sB0]; · iexact sB0
      isplitl [sB1]; · iexact sB1
      isplitl [sB2] <;> iassumption
    isplitl [sA0]; · iexact sA0
    isplitl [sA1]; · iexact sA1
    isplitl [sA2] <;> iassumption
  iapply (xfer_join fun t => slotAny (F := F) c t 1)
  isplitl [tB0 tB1 tB2 tB3]
  · isplitl [tB0]; · iexact tB0
    isplitl [tB1]; · iexact tB1
    isplitl [tB2] <;> iassumption
  isplitl [tA0]; · iexact tA0
  isplitl [tA1]; · iexact tA1
  isplitl [tA2] <;> iassumption

theorem scratch_out : scratch (F := F) c ⊢ Pipeline.scopedRest (Ix := Unit) (Name := ℕ) (U := UU) (Lvl := ℕ) (Val := Elt F) cfg0.spec c := by
  rw [show (Pipeline.scopedRest (Ix := Unit) (Name := ℕ) (U := UU) (Lvl := ℕ) (Val := Elt F) cfg0.spec c : sProp 𝕄) = _ from scopedRest0_eq c]
  unfold scratch
  iintro ⟨⟨xp, aB, aA⟩, ⟨rB, rA⟩, s, t⟩
  ihave s := (xfer_split fun t => slotAny (F := F) c t 0) $$ s
  ihave t := (xfer_split fun t => slotAny (F := F) c t 1) $$ t
  icases s with ⟨⟨sB0, sB1, sB2, sB3⟩, sA0, sA1, sA2, sA3⟩
  icases t with ⟨⟨tB0, tB1, tB2, tB3⟩, tA0, tA1, tA2, tA3⟩
  isplitl [xp]
  · iapply (xp_out c) $$ xp
  isplitl [aA]
  · iapply (aA_out c) $$ aA
  isplitl [aB]
  · iapply (aB_out c) $$ aB
  isplitl [sA0 tA0]
  · iapply ((halves_out c _ _).trans (sA0_out c)) $$ [sA0 tA0]
    isplitl [sA0] <;> iassumption
  isplitl [sA1 tA1]
  · iapply ((halves_out c _ _).trans (sA1_out c)) $$ [sA1 tA1]
    isplitl [sA1] <;> iassumption
  isplitl [rA]
  · iapply ((runs_out c _).trans (rA_out c)) $$ rA
  isplitl [sA2 tA2]
  · iapply ((halves_out c _ _).trans (sA2_out c)) $$ [sA2 tA2]
    isplitl [sA2] <;> iassumption
  isplitl [sA3 tA3]
  · iapply ((halves_out c _ _).trans (sA3_out c)) $$ [sA3 tA3]
    isplitl [sA3] <;> iassumption
  isplitl [sB0 tB0]
  · iapply ((halves_out c _ _).trans (sB0_out c)) $$ [sB0 tB0]
    isplitl [sB0] <;> iassumption
  isplitl [sB1 tB1]
  · iapply ((halves_out c _ _).trans (sB1_out c)) $$ [sB1 tB1]
    isplitl [sB1] <;> iassumption
  isplitl [rB]
  · iapply ((runs_out c _).trans (rB_out c)) $$ rB
  isplitl [sB2 tB2]
  · iapply ((halves_out c _ _).trans (sB2_out c)) $$ [sB2 tB2]
    isplitl [sB2] <;> iassumption
  iapply ((halves_out c _ _).trans (sB3_out c)) $$ [sB3 tB3]
  isplitl [sB3] <;> iassumption

/-- What is held for every transfer is held direction by direction. -/
theorem by_direction (Φ : Xfer → sProp (MT nD τ sig Unit (Elt F) ℕ UU ℕ)) :
    bigSep Finset.univ Φ = bigSep Finset.univ fun q : Fin 4 => bigSep (Finset.univ.filter fun t => dirn t = q) Φ := by
  have h : (Finset.univ : Finset Xfer).image dirn = Finset.univ := by decide
  rw [bigSep_fiberwise Finset.univ dirn Φ, h]

end Whole

end Cert.Butterfly
-- ==== Proof.Deal.lean ====
/-
What the launch deals to the devices: the semaphores' invariants, the rights to signal and to send, the credits.
-/
module

public import proofs.«01_k».proof.Proof.Exchange
public import proofs.«01_k».proof.Proof.Run

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the semaphores -/

theorem bigSep_sm (Φ : Sm → sProp (MT nD τ sig Unit (Elt F) ℕ UU ℕ)) :
    bigSep Finset.univ Φ = iprop((bigSep Finset.univ fun p : Xfer × Bool => Φ (some p)) ∗ Φ none) := by
  rw [bigSep_univ_equiv (Equiv.optionEquivSumPUnit (Xfer × Bool)).symm Φ, bigSep_univ_sum, show (Finset.univ : Finset PUnit.{1}) = {PUnit.unit} from rfl, bigSep_singleton]
  rfl

theorem bigSep_pairs (Φ : Xfer × Bool → sProp (MT nD τ sig Unit (Elt F) ℕ UU ℕ)) :
    bigSep Finset.univ Φ = iprop((bigSep Finset.univ fun t => Φ (t, false)) ∗ bigSep Finset.univ fun t => Φ (t, true)) := by
  rw [bigSep_univ_equiv (Equiv.prodComm Bool Xfer) Φ, bigSep_univ_prod, bigSep_univ_eq_bigSepL [false, true] (by decide) (by decide)]
  rfl

/-- What every device holds for each of its neighbours, dealt to the neighbours. -/
theorem bigSep_around {Q : Type} [Fintype Q] [DecidableEq Q] (e : Q → Dev nD → Dev nD) (he : ∀ q c, e q (e q c) = c)
    (Φ : Q → Dev nD → sProp (MT nD τ sig Unit (Elt F) ℕ UU ℕ)) :
    (bigSep Finset.univ fun c => bigSep Finset.univ fun q => Φ q c) = bigSep Finset.univ fun c => bigSep Finset.univ fun q => Φ q (e q c) := by
  rw [← bigSep_univ_prod (fun p : Dev nD × Q => Φ p.2 p.1), ← bigSep_univ_prod (fun p : Dev nD × Q => Φ p.2 (e p.2 p.1))]
  exact bigSep_univ_equiv (Function.Involutive.toPerm (fun p : Dev nD × Q => (e p.2 p.1, p.2)) fun p => Prod.ext (he _ _) rfl) (fun p : Dev nD × Q => Φ p.2 p.1)

theorem with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The semaphores and the duties -/

/-- The kernel's own semaphores: two per transfer. -/
abbrev osem (p : Xfer × Bool) : SemLoc sig := csem (some p)

theorem ownSems0_eq (c : Dev nD) : (Pipeline.ownSems0 (Ix := Unit) (Name := ℕ) (U := UU) (Lvl := ℕ) (Val := Elt F) (τ := τ) osem c : sProp 𝕄)
    = bigSep Finset.univ fun p : Xfer × Bool => semVal (cell c (some p)) 0 := rfl

theorem unscopedSems0_eq (c : Dev nD) : (unscopedSems0 c : sProp 𝕄) = semVal (barCell c) 0 := by
  unfold unscopedSems0
  rw [bigSep_eq_bigSepL_of_eq [csem none] (by decide) (by decide)]
  rfl

theorem cells_inj : Function.Injective (fun ck : Dev nD × Sm => cell ck.1 ck.2) := fun a b h => Prod.ext (cell_inj h).1 (cell_inj h).2

def allCells : Finset (GSem nD τ sig) := Finset.univ.map ⟨_, cells_inj⟩

/-- The duties: four of a barrier, one of every other semaphore. -/
abbrev Duty := (Xfer × Bool) ⊕ Fin 4

def dutyOf (cd : Dev nD × Duty) : GSem nD τ sig × ℕ × Fin 4 := match cd.2 with
  | .inl p => (cell cd.1 (some p), 0, 0)
  | .inr q => (barCell cd.1, 0, q)

theorem dutyOf_inj : Function.Injective dutyOf := by
  rintro ⟨c, p | q⟩ ⟨c', p' | q'⟩ h
  · obtain ⟨rfl, e⟩ := cell_inj (Prod.mk.inj h).1
    rw [Option.some.inj e]
  · exact absurd (cell_inj (Prod.mk.inj h).1).2 (by simp)
  · exact absurd (cell_inj (Prod.mk.inj h).1).2 (by simp)
  · obtain ⟨rfl, -⟩ := cell_inj (Prod.mk.inj h).1
    have e : q = q' := (Prod.mk.inj (Prod.mk.inj h).2).2
    rw [e]

def allDuties : Finset (GSem nD τ sig × ℕ × Fin 4) := Finset.univ.map ⟨dutyOf, dutyOf_inj⟩

/-- The initial element of the resource algebra. -/
def u₀ : UU := (initOf (Pipeline.cells cfgs cellOf_inj) (Pipeline.launchToks cfgs cellOf_inj), initOf allCells allDuties)

section Deal

variable (x w : Dev nD → ℕ → ℕ → Elt F .f32)

/-- The duties of device `c`'s own semaphores. -/
def duties (c : Dev nD) : sProp 𝕄 :=
  iprop((bigSep Finset.univ fun p : Xfer × Bool => dutyTok ER (cell c (some p)) 0 (0 : Fin 4)) ∗ bigSep Finset.univ fun q : Fin 4 => dutyTok ER (barCell c) 0 q)

/-- What the initial element gives device `c`. -/
def given (c : Dev nD) : sProp 𝕄 :=
  iprop((bigSep Finset.univ fun k : Sm => roundState ER (sched (F := F) x w) (cell c k) 0)
    ∗ (bigSep Finset.univ fun k : Sm => atPos ER (cell c k) 0 ∅ 0) ∗ (bigSep Finset.univ fun k : Sm => reached ER (cell c k) 0) ∗ duties (F := F) c)

theorem cells_split (Φ : GSem nD τ sig → sProp (MT nD τ sig Unit (Elt F) ℕ UU ℕ)) :
    bigSep allCells Φ = bigSep Finset.univ fun c : Dev nD => bigSep Finset.univ fun k : Sm => Φ (cell c k) := by
  unfold allCells
  rw [bigSep_map, bigSep_univ_prod]
  rfl

theorem duties_split :
    bigSep allDuties (fun d => (dutyTok ER d.1 d.2.1 d.2.2 : sProp 𝕄)) = bigSep Finset.univ fun c : Dev nD => duties (F := F) c := by
  unfold allDuties
  rw [bigSep_map, bigSep_univ_prod]
  refine bigSep_congr fun c _ => ?_
  rw [bigSep_univ_sum]
  rfl

theorem fund : BI.own (ER (initOf allCells allDuties)) ⊢ (|==> bigSep Finset.univ (given x w) : sProp 𝕄) := by
  iintro HX
  imod (Rounds.fund ER (sched (F := F) x w) allCells allDuties) $$ HX with ⟨Hst, Hr, Hat, Htok⟩
  imodintro
  ihave Hst := (Entails.of_eq (cells_split fun g => roundState ER (sched (F := F) x w) g 0)) $$ Hst
  ihave Hat := (Entails.of_eq (cells_split fun g => atPos ER g 0 ∅ 0)) $$ Hat
  ihave Hr := (Entails.of_eq (cells_split fun g => reached ER g 0)) $$ Hr
  ihave Htok := (Entails.of_eq duties_split) $$ Htok
  unfold given
  simp only [bigSep_sep']
  isplitl [Hst]; · iexact Hst
  isplitl [Hat]; · iexact Hat
  isplitl [Hr] <;> iassumption

/-- What device `c` is dealt: its positions and the duties it pays. -/
def dealt (c : Dev nD) : sProp 𝕄 :=
  iprop(atPos ER (barCell c) 0 ∅ 0 ∗ (bigSep Finset.univ fun t => atPos ER (rcvCell c t) 0 ∅ 0)
    ∗ (bigSep Finset.univ fun q : Fin 4 => dutyTok ER (barCell (nbr q c)) 0 q) ∗ bigSep Finset.univ fun t => tok (F := F) c t)

/-- The invariants of all the semaphores. -/
def known (K : Dev nD × Sm → ℕ) : sProp 𝕄 :=
  bigSep Finset.univ fun ck : Dev nD × Sm => iprop(cellInv ER (sched (F := F) x w) (K ck) (cell ck.1 ck.2) ∗ reached ER (cell ck.1 ck.2) 0)

instance known_persistent (K : Dev nD × Sm → ℕ) : BI.Persistent (known (F := F) x w K) := by unfold known; infer_instance

/-- What the devices share, and what each is dealt. -/
def shares (c : Dev nD) : sProp 𝕄 := iprop(∃ K, known (F := F) x w K ∗ dealt (F := F) c)

theorem shares_env (c : Dev nD) : iprop(shares x w c ∗ order (F := F)) ⊢ iprop(∃ K, env (F := F) x w K ∗ dealt (F := F) c) := by
  unfold shares known env
  iintro ⟨⟨%K, HK, Hd⟩, Ho⟩
  iexists K
  isplitl [HK Ho]
  · isplitl [HK] <;> iassumption
  iexact Hd

theorem duties_around : (bigSep Finset.univ fun c : Dev nD => duties (F := F) c)
    = iprop(((bigSep Finset.univ fun c : Dev nD => bigSep Finset.univ fun t => dutyTok ER (sndCell c t) 0 (0 : Fin 4))
      ∗ (bigSep Finset.univ fun c : Dev nD => bigSep Finset.univ fun t => dutyTok ER (rcvCell (peer t c) t) 0 (0 : Fin 4)))
      ∗ bigSep Finset.univ fun c : Dev nD => bigSep Finset.univ fun q : Fin 4 => dutyTok ER (barCell (nbr q c)) 0 q) := by
  have h (c : Dev nD) := bigSep_pairs (F := F) fun p => dutyTok ER (cell c (some p)) 0 (0 : Fin 4)
  unfold duties
  simp only [h, bigSep_sep']
  rw [bigSep_around (fun t c => peer t c) peer_peer (fun t c => (dutyTok ER (rcvCell c t) 0 (0 : Fin 4) : sProp 𝕄)),
    bigSep_around nbr nbr_nbr (fun q c => (dutyTok ER (barCell c) 0 q : sProp 𝕄))]

theorem positions : (bigSep Finset.univ fun c : Dev nD => bigSep Finset.univ fun k : Sm => (atPos ER (cell c k) 0 ∅ 0 : sProp 𝕄))
    = iprop(((bigSep Finset.univ fun c : Dev nD => bigSep Finset.univ fun t => atPos ER (sndCell c t) 0 ∅ 0)
      ∗ (bigSep Finset.univ fun c : Dev nD => bigSep Finset.univ fun t => atPos ER (rcvCell c t) 0 ∅ 0))
      ∗ bigSep Finset.univ fun c : Dev nD => atPos ER (barCell c) 0 ∅ 0) := by
  have h (c : Dev nD) := bigSep_sm (F := F) fun k => atPos ER (cell c k) 0 ∅ 0
  have h' (c : Dev nD) := bigSep_pairs (F := F) fun p => atPos ER (cell c (some p)) 0 ∅ 0
  simp only [h, h', bigSep_sep']

theorem dealt_all : iprop((bigSep Finset.univ fun c : Dev nD => bigSep Finset.univ fun k : Sm => atPos ER (cell c k) 0 ∅ 0)
    ∗ bigSep Finset.univ fun c : Dev nD => duties (F := F) c) ⊢ bigSep Finset.univ fun c : Dev nD => dealt (F := F) c := by
  rw [duties_around, positions]
  unfold dealt tok
  simp only [bigSep_sep']
  iintro ⟨⟨⟨Hs, Hr⟩, Hb⟩, ⟨Ts, Tr⟩, Tb⟩
  isplitl [Hb]; · iexact Hb
  isplitl [Hr]; · iexact Hr
  isplitl [Tb]; · iexact Tb
  isplitl [Hs]; · iexact Hs
  isplitl [Ts] <;> iassumption

/-- On one device, the semaphores at zero and the initial rounds become invariants. -/
theorem alloc_one (c : Dev nD) :
    iprop(Pipeline.ownSems0 (Ix := Unit) (Name := ℕ) (U := UU) (Lvl := ℕ) (Val := Elt F) (τ := τ) osem c ∗ unscopedSems0 c ∗ given x w c)
      ⊢ |={Set.univ}=> iprop((bigSep Finset.univ fun k => iprop(∃ κ : ℕ, cellInv ER (sched (F := F) x w) κ (cell c k)))
          ∗ (bigSep Finset.univ fun k : Sm => atPos ER (cell c k) 0 ∅ 0) ∗ (bigSep Finset.univ fun k : Sm => reached ER (cell c k) 0) ∗ duties (F := F) c) := by
  have hz : iprop(Pipeline.ownSems0 (Ix := Unit) (Name := ℕ) (U := UU) (Lvl := ℕ) (Val := Elt F) (τ := τ) osem c ∗ unscopedSems0 c)
      ⊢ (bigSep Finset.univ fun k : Sm => semVal (cell c k) 0 : sProp 𝕄) := by
    rw [ownSems0_eq, unscopedSems0_eq, bigSep_sm]
  have ha : iprop((bigSep Finset.univ fun k : Sm => semVal (cell c k) 0) ∗ bigSep Finset.univ fun k : Sm => roundState ER (sched (F := F) x w) (cell c k) 0)
      ⊢ (|={Set.univ}=> bigSep Finset.univ fun k => iprop(∃ κ : ℕ, cellInv ER (sched (F := F) x w) κ (cell c k)) : sProp 𝕄) := by
    rw [← bigSep_sep']
    exact (bigSep_mono fun k _ => (Rounds.body_intro ER (sched (F := F) x w) (cell c k)).trans inv_alloc).trans (bigSep_fupd _ _)
  unfold given
  iintro ⟨Hos, Hus, Hst, Hat, Hr, Htok⟩
  ihave Hv := hz $$ [Hos Hus]
  · isplitl [Hos] <;> iassumption
  imod ha $$ [Hv Hst] with Hinv
  · isplitl [Hv] <;> iassumption
  imodintro
  isplitl [Hinv]; · iexact Hinv
  isplitl [Hat]; · iexact Hat
  isplitl [Hr] <;> iassumption

/-- The invariants of all the devices, shared, and the rights, dealt. -/
theorem deal : (bigSep Finset.univ fun c : Dev nD => iprop((bigSep Finset.univ fun k => iprop(∃ κ : ℕ, cellInv ER (sched (F := F) x w) κ (cell c k)))
    ∗ (bigSep Finset.univ fun k : Sm => atPos ER (cell c k) 0 ∅ 0) ∗ (bigSep Finset.univ fun k : Sm => reached ER (cell c k) 0) ∗ duties (F := F) c))
      ⊢ bigSep Finset.univ (shares x w) := by
  rw [bigSep_sep', bigSep_sep', bigSep_sep', ← bigSep_univ_prod (fun ck : Dev nD × Sm => iprop(∃ κ : ℕ, cellInv ER (sched (F := F) x w) κ (cell ck.1 ck.2))),
    ← bigSep_univ_prod (fun ck : Dev nD × Sm => (reached ER (cell ck.1 ck.2) 0 : sProp 𝕄))]
  have hk (K : Dev nD × Sm → ℕ) : iprop((bigSep Finset.univ fun ck : Dev nD × Sm => cellInv ER (sched (F := F) x w) (K ck) (cell ck.1 ck.2))
      ∗ bigSep Finset.univ fun ck : Dev nD × Sm => reached ER (cell ck.1 ck.2) 0) ⊢ known x w K := by
    unfold known
    rw [bigSep_sep']
  have hs (K : Dev nD × Sm → ℕ) (c : Dev nD) : iprop(known (F := F) x w K ∗ dealt (F := F) c) ⊢ shares x w c := by
    unfold shares
    iintro H
    iexists K
    iexact H
  iintro ⟨HI, Hat, Hr, Htok⟩
  ihave HK := (BI.bigSep_exists_pi Finset.univ (fun (ck : Dev nD × Sm) (κ : ℕ) => (cellInv ER (sched (F := F) x w) κ (cell ck.1 ck.2) : sProp 𝕄))) $$ HI
  icases HK with ⟨%K, HI⟩
  ihave Hd := (dealt_all (F := F)) $$ [Hat Htok]
  · isplitl [Hat] <;> iassumption
  ihave Hk := (hk K) $$ [HI Hr]
  · isplitl [HI] <;> iassumption
  iapply (with_persistent (R := known x w K) (Φ := dealt (F := F)) fun c _ => hs K c)
  isplitl [Hk] <;> iassumption

/-- All the devices' semaphores at once. -/
theorem glob : (bigSep Finset.univ fun c => iprop(Pipeline.ownSems0 (Ix := Unit) (Name := ℕ) (U := UU) (Lvl := ℕ) (Val := Elt F) (τ := τ) osem c ∗ unscopedSems0 c ∗ given x w c) : sProp 𝕄)
    ⊢ |={Set.univ}=> bigSep Finset.univ (shares x w) :=
  ((bigSep_mono fun c _ => alloc_one x w c).trans (bigSep_fupd _ _)).trans (BI.fupd_mono (deal x w))

end Deal

/-! ## The credits -/

theorem owedFrom_bar (d c : Dev nD) (j : ℕ) (u : Unit) : owedFrom d j (barCell c) u = 0 := by
  by_contra h
  obtain ⟨t, -, e⟩ := owedFrom_pos (Nat.pos_of_ne_zero h)
  exact absurd (cell_inj e).2 (by simp)

theorem owedBar_rcv (d c : Dev nD) (q : Fin 4) (t : Xfer) (u : Unit) : owedBar d q (rcvCell c t) u = 0 := by
  by_contra h
  have e := owedBar_pos (Nat.pos_of_ne_zero h)
  exact absurd (cell_inj e).2 (by simp)

theorem owedBar_bar (d c : Dev nD) (q : Fin 4) : owedBar d q (barCell c) () = if d = nbr q c then 1 else 0 := by
  unfold owedBar
  rw [tallyAt_apply]
  by_cases h : d = nbr q c
  · subst h; rw [nbr_nbr, if_pos ⟨rfl, rfl⟩, if_pos rfl]
  · rw [if_neg (fun h' => h (by rw [(cell_inj h'.1).1, nbr_nbr])), if_neg h]

theorem owe_rcv (d c : Dev nD) (t t' : Xfer) : owe d t' (rcvCell c t) () = if t' = t then (if d = peer t c then units t else 0) else 0 := by
  unfold owe
  rw [tallyAt_apply]
  by_cases h : t' = t
  · subst h
    rw [if_pos rfl]
    by_cases h : d = peer t' c
    · subst h; rw [peer_peer, if_pos ⟨rfl, rfl⟩, if_pos rfl]
    · rw [if_neg (fun h' => h (by rw [(cell_inj h'.1).1, peer_peer])), if_neg h]
  · rw [if_neg h, if_neg fun h' => h (by have := (cell_inj h'.1).2; simp at this; exact this.symm)]

theorem owedFrom_rcv (d c : Dev nD) (t : Xfer) : owedFrom d 0 (rcvCell c t) () = if d = peer t c then units t else 0 := by
  unfold owedFrom
  rw [Finset.sum_apply, Finsupp.finset_sum_apply, Finset.filter_true_of_mem fun t _ => Nat.zero_le _, Finset.sum_congr rfl fun t' _ => owe_rcv d c t t',
    Finset.sum_ite_eq' Finset.univ t fun _ => _, if_pos (Finset.mem_univ _)]

theorem owed_bar (d c : Dev nD) : O₀ d (barCell c) () = (if d = nbr 3 c then 1 else 0) + (if d = nbr 2 c then 1 else 0) + (if d = nbr 1 c then 1 else 0) + (if d = nbr 0 c then 1 else 0) := by
  unfold O₀
  simp only [Pi.add_apply, Finsupp.add_apply]
  rw [owedFrom_bar, owedBar_bar, owedBar_bar, owedBar_bar, owedBar_bar, Nat.zero_add]

theorem owed_rcv (d c : Dev nD) (t : Xfer) : O₀ d (rcvCell c t) () = if d = peer t c then units t else 0 := by
  unfold O₀
  simp only [Pi.add_apply, Finsupp.add_apply]
  rw [owedFrom_rcv, owedBar_rcv, owedBar_rcv, owedBar_rcv, owedBar_rcv]
  simp only [Nat.add_zero]

theorem launch_bar (c : Dev nD) :
    tallyOn (barCell c) (launchCredit (Pipeline.owing O₀) 0 (barCell c)) = (tallyAt (barCell c) () 4 : CellTallies nD τ sig Unit) := by
  unfold tallyAt
  refine congrArg _ (Finsupp.ext fun u => ?_)
  cases u
  rw [Pipeline.launchCredit_owing, Finsupp.single_eq_same, Finset.sum_congr rfl fun d _ => owed_bar d c]
  simp only [Finset.sum_add_distrib, Finset.sum_ite_eq', Finset.mem_univ, if_true]

theorem launch_rcv (c : Dev nD) (t : Xfer) :
    tallyOn (rcvCell c t) (launchCredit (Pipeline.owing O₀) 0 (rcvCell c t)) = (tallyAt (rcvCell c t) () (units t) : CellTallies nD τ sig Unit) := by
  unfold tallyAt
  refine congrArg _ (Finsupp.ext fun u => ?_)
  cases u
  rw [Pipeline.launchCredit_owing, Finsupp.single_eq_same, Finset.sum_congr rfl fun d _ => owed_rcv d c t,
    Finset.sum_ite_eq' Finset.univ (peer t c) fun _ => _, if_pos (Finset.mem_univ _)]

theorem rcv_inj : Function.Injective fun t : Xfer => csem (some (t, true)) := fun t t' h => by
  have := csem_inj h
  simp at this
  exact this

/-- What all the devices owe is what device `c` may wait for. -/
theorem creds (c : Dev nD) :
    (Pipeline.launchCred O₀ c : sProp 𝕄) ⊢ iprop(cred (tallyAt (barCell c) () 4) ∗ bigSep Finset.univ fun t => cred (tallyAt (rcvCell c t) () (units t))) := by
  unfold Pipeline.launchCred
  rw [bigSep_univ_at _ (csem none), launch_bar]
  refine sep_mono_right ?_
  have hsub : Finset.univ.map ⟨_, rcv_inj⟩ ⊆ (Finset.univ : Finset (SemLoc sig)).erase (csem none) := by
    intro s hs
    obtain ⟨t, -, rfl⟩ := Finset.mem_map.mp hs
    exact Finset.mem_erase.mpr ⟨fun h => Option.some_ne_none _ (csem_inj (show csem (some (t, true)) = csem none from h)), Finset.mem_univ _⟩
  refine (BI.bigSep_subset hsub).trans ?_
  rw [bigSep_map]
  exact bigSep_mono fun t _ => Entails.of_eq (congrArg cred (launch_rcv c t))

end Cert.Butterfly
-- ==== Proof.BodyEq.lean ====
/-
The kernel's body is its phases.
-/
module

public import proofs.«01_k».proof.Proof.Body

@[expose] public section

noncomputable section

namespace Cert.Butterfly

open Cert.KernelIdeal Cert.KernelIdeal.Gen
open Idealize.ShloMosaic Idealize.SL.Sem

variable {F : FTy → Type} [FloatOps F]

set_option maxRecDepth 65536 in
set_option maxHeartbeats 0 in
/-- The kernel's body is the phases above. -/
theorem body_eq (arg0 : Memref sig .tc .vmem S1024x64 .f32) (harg0 : arg0.IsWhole) (arg1 : Memref sig .tc .vmem S64x1024 .f32) (harg1 : arg1.IsWhole) (arg2 : Memref sig .tc .vmem S64x1024 .f32) (harg2 : arg2.IsWhole) (arg3 : Memref sig .tc .vmem S1024x64 .f32) (harg3 : arg3.IsWhole) (arg4 : Memref sig .tc .vmem S1024x768 .f32) (harg4 : arg4.IsWhole) (arg5 : Memref sig .tc .vmem S1024x256 .f32) (harg5 : arg5.IsWhole) (arg6 : Memref sig .tc .vmem S6x2x512x128 .bf16) (harg6 : arg6.IsWhole) (arg7 : Memref sig .tc .vmem S6x2x256x128 .bf16) (harg7 : arg7.IsWhole) (arg8 : Memref sig .tc .vmem S6x256x128 .f32) (harg8 : arg8.IsWhole) (arg9 : Memref sig .tc .vmem S6x2x128x128 .bf16) (harg9 : arg9.IsWhole) (arg10 : Memref sig .tc .vmem S6x2x64x128 .bf16) (harg10 : arg10.IsWhole) (arg11 : Memref sig .tc .vmem S2x2x512x128 .bf16) (harg11 : arg11.IsWhole) (arg12 : Memref sig .tc .vmem S2x2x256x128 .bf16) (harg12 : arg12.IsWhole) (arg13 : Memref sig .tc .vmem S2x256x128 .f32) (harg13 : arg13.IsWhole) (arg14 : Memref sig .tc .vmem S2x2x128x128 .bf16) (harg14 : arg14.IsWhole) (arg15 : Memref sig .tc .vmem S2x2x64x128 .bf16) (harg15 : arg15.IsWhole) (arg16 : DmaSems sig S6) (arg17 : DmaSems sig S6) (arg18 : DmaSems sig S6) (arg19 : DmaSems sig S6) (arg20 : DmaSems sig S6) (arg21 : DmaSems sig S6) (arg22 : DmaSems sig S6) (arg23 : DmaSems sig S6) (arg24 : DmaSems sig S2) (arg25 : DmaSems sig S2) (arg26 : DmaSems sig S2) (arg27 : DmaSems sig S2) (arg28 : DmaSems sig S2) (arg29 : DmaSems sig S2) (arg30 : DmaSems sig S2) (arg31 : DmaSems sig S2) :
    cc0_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 =
      Bufs.body ⟨arg0, arg1, arg2, arg3,
        ⟨arg4, harg4, arg8, harg8, ⟨arg6, harg6, arg16, arg17⟩, ⟨arg7, harg7, arg18, arg19⟩, ⟨arg9, harg9, arg20, arg21⟩,
          ⟨arg10, harg10, arg22, arg23⟩⟩,
        ⟨arg5, harg5, arg13, harg13, ⟨arg11, harg11, arg24, arg25⟩, ⟨arg12, harg12, arg26, arg27⟩, ⟨arg14, harg14, arg28, arg29⟩,
          ⟨arg15, harg15, arg30, arg31⟩⟩⟩ := by
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel,
    Bufs.body, Bufs.phases, inOrder, signals, each2, each6, each16, Bufs.copy, Bufs.prodA, Bufs.prodB,
    Fam.step1, Fam.step2, Fam.start, Fam.step3, Fam.grow, Fam.step4, Fam.finish, Stage.fill, Stage.put, Stage.get, Stage.send,
    Stage.waitRcv, Stage.waitSnd, fillAt, storeAt, loadAt, semSignalWord, semWaitWord,
    ↓Prog.bind_lift, ↓Prog.bind_op, ↓Prog.bind_ret, ↓Prog.bind_assoc, Prog.pure_eq_ret]
  rfl

end Cert.Butterfly
-- ==== Proof.Obligation.lean ====
/-
The kernel's body on every device, as the launch asks for it.
-/
module

public import proofs.«01_k».proof.Proof.Scratch
public import proofs.«01_k».proof.Proof.Deal
public import proofs.«01_k».proof.Proof.BodyEq
public import proofs.«01_k».proof.Proof.Gen.KernelIdeal.Points

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

section Contents

variable (m : (ℓ : Loc nD τ sig) → Buf (Elt F) ℓ) (ρ : Dev nD → PrngReg) (c : Dev nD)

/-- The state at the launch. -/
abbrev s₀ : MemSt nD τ sig (Elt F) := ⟨m, fun _ => 0, ρ⟩

/-- The operands of device `c` as its windows read them. -/
def xIn : (⟨2, ![1024, 64]⟩ : Shape).Idx → Elt F .f32 := (win0_0.blk (0 : Fin 1)).view.read (Elt F) (m ((c : Thread nD τ).loc main_arg0))
def wIn : (⟨2, ![64, 1024]⟩ : Shape).Idx → Elt F .f32 := (win0_1.blk (0 : Fin 1)).view.read (Elt F) (m ((c : Thread nD τ).loc main_arg1))

/-- The same, by row and column. -/
def xAt (c : Dev nD) (r k : ℕ) : Elt F .f32 := xIn m c (ix ⟨2, ![1024, 64]⟩ (by decide) ![r, k])
def wAt (c : Dev nD) (r k : ℕ) : Elt F .f32 := wIn m c (ix ⟨2, ![64, 1024]⟩ (by decide) ![r, k])

/-- The result of device `c`. -/
def outIs : (⟨2, ![64, 1024]⟩ : Shape).Idx → Elt F .f32 := fun y => result (xAt m) (wAt m) c (y 0).val (y 1).val

theorem xIn_at (y : (⟨2, ![1024, 64]⟩ : Shape).Idx) : xIn m c y = xAt m c (y 0).val (y 1).val := by
  rw [xAt, show ix ⟨2, ![1024, 64]⟩ (by decide) ![(y 0).val, (y 1).val] = y from at2_self _ y]
theorem wIn_at (y : (⟨2, ![64, 1024]⟩ : Shape).Idx) : wIn m c y = wAt m c (y 0).val (y 1).val := by
  rw [wAt, show ix ⟨2, ![64, 1024]⟩ (by decide) ![(y 0).val, (y 1).val] = y from at2_self _ y]

end Contents

section Stage

variable (c : Dev nD)

/-- A staging buffer at contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

theorem whole_held {p q : ℕ} (M : Memref sig .tc .vmem ⟨2, ![p, q]⟩ .f32) (hM : M.view.set = Finset.univ)
    (f : Buf (Elt F) (M.view.loc (c : Thread nD τ))) (v : ℕ → ℕ → Elt F .f32) (h : ∀ y, M.view.read (Elt F) f y = v (y 0).val (y 1).val) :
    ((M.view.loc (c : Thread nD τ)) ↦{fullShare} f) ⊢ grid c M v := by
  unfold grid held
  rw [View.setOn_univ, hM]
  iintro H
  iexists f
  isplitr
  · ipureintro
    exact fun y _ => h y
  iexact H

theorem held_stage {p q : ℕ} (M : Memref sig .tc .vmem ⟨2, ![p, q]⟩ .f32) (hM : M.view.set = Finset.univ)
    (X : (⟨2, ![p, q]⟩ : Shape).Idx → Elt F .f32) :
    held c M Finset.univ X ⊢ iprop(∃ f : Buf (Elt F) (M.view.loc (c : Thread nD τ)), ⌜M.view.read (Elt F) f = X⌝ ∗ ((M.view.loc (c : Thread nD τ)) ↦{fullShare} f)) := by
  unfold held
  rw [View.setOn_univ, hM]
  iintro ⟨%g, %hg, H⟩
  iexists g
  isplitr
  · ipureintro
    exact funext fun y => hg y (Finset.mem_univ y)
  iexact H

theorem x_in (X : (⟨2, ![1024, 64]⟩ : Shape).Idx → Elt F .f32) (v : ℕ → ℕ → Elt F .f32) (h : ∀ y, X y = v (y 0).val (y 1).val) :
    stg c cc0_stg0_0 X ⊢ grid c (Memref.whole cc0_stg0_0) v := by
  iintro ⟨%f, %hf, H⟩
  subst hf
  iapply (whole_held c (Memref.whole cc0_stg0_0) (View.set_whole _) _ v h) $$ H

theorem w_in (X : (⟨2, ![64, 1024]⟩ : Shape).Idx → Elt F .f32) (v : ℕ → ℕ → Elt F .f32) (h : ∀ y, X y = v (y 0).val (y 1).val) :
    stg c cc0_stg1_0 X ⊢ grid c (Memref.whole cc0_stg1_0) v := by
  iintro ⟨%f, %hf, H⟩
  subst hf
  iapply (whole_held c (Memref.whole cc0_stg1_0) (View.set_whole _) _ v h) $$ H

theorem out_in (X : (⟨2, ![64, 1024]⟩ : Shape).Idx → Elt F .f32) : stg c cc0_stg2_0 X ⊢ owned (F := F) c (Memref.whole cc0_stg2_0) Finset.univ := by
  iintro ⟨%f, %hf, H⟩
  iapply (whole_in c (Memref.whole cc0_stg2_0) (View.set_whole _))
  iexists f
  iexact H

theorem x_out (X : (⟨2, ![1024, 64]⟩ : Shape).Idx → Elt F .f32) (v : ℕ → ℕ → Elt F .f32) (h : ∀ y, X y = v (y 0).val (y 1).val) :
    grid c (Memref.whole cc0_stg0_0) v ⊢ stg c cc0_stg0_0 X := by
  unfold grid
  exact (held_congr c _ fun y _ => (h y).symm).trans (held_stage c (Memref.whole cc0_stg0_0) (View.set_whole _) X)

theorem w_out (X : (⟨2, ![64, 1024]⟩ : Shape).Idx → Elt F .f32) (v : ℕ → ℕ → Elt F .f32) (h : ∀ y, X y = v (y 0).val (y 1).val) :
    grid c (Memref.whole cc0_stg1_0) v ⊢ stg c cc0_stg1_0 X := by
  unfold grid
  exact (held_congr c _ fun y _ => (h y).symm).trans (held_stage c (Memref.whole cc0_stg1_0) (View.set_whole _) X)

theorem out_out (x w : Dev nD → ℕ → ℕ → Elt F .f32) :
    outTo x w c (Memref.whole cc0_stg2_0) 1024 ⊢ stg c cc0_stg2_0 (fun y : (⟨2, ![64, 1024]⟩ : Shape).Idx => result x w c (y 0).val (y 1).val) := by
  unfold outTo
  iintro ⟨%f, %hf, H⟩
  iapply ((held_congr c (Memref.whole cc0_stg2_0) (S := Finset.univ) (f := f) (f' := fun y => result x w c (y 0).val (y 1).val) fun y _ => hf y (y 1).isLt).trans
    (held_stage c (Memref.whole cc0_stg2_0) (View.set_whole _) _)) $$ H

end Stage

section Body

variable (m : (ℓ : Loc nD τ sig) → Buf (Elt F) ℓ)

/-- What a device starts with. -/
def start (c : Dev nD) : sProp 𝕄 :=
  iprop(shares (xAt m) (wAt m) c ∗ order (F := F) ∗ cred (tallyAt (barCell c) () 4) ∗ bigSep Finset.univ fun t => cred (tallyAt (rcvCell c t) () (units t)))

/-- Before and after the body: the scratch buffers and the semaphores. -/
def Φ₀ (c : Dev nD) : sProp 𝕄 := iprop(start m c ∗ scratch (F := F) c)
def Φ₁ (c : Dev nD) : sProp 𝕄 :=
  iprop(scratch (F := F) c ∗ (bigSep Finset.univ fun t => semVal (sndCell c t) 0) ∗ (bigSep Finset.univ fun t => semVal (rcvCell c t) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outIs m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ (F := F) c ∗ (dats m 0 c).owesAt () t0_0.succ ∗ stg c cc0_stg0_0 (xIn m c) ∗ stg c cc0_stg1_0 (wIn m c) ∗ stg c cc0_stg2_0 (outIs m c))

theorem before_x (c : Dev nD) (d) : (dats m 0 c).before (0 : Fin 3) t0_0 d = xIn m c := by
  unfold Dat.before; rw [if_pos (fetch0_0 t0_0)]; rfl
theorem before_w (c : Dev nD) (d) : (dats m 0 c).before (1 : Fin 3) t0_0 d = wIn m c := by
  unfold Dat.before; rw [if_pos (fetch0_1 t0_0)]; rfl

/-- The neighbours are told of the second halves. -/
theorem tells (c : Dev nD) : iprop((bigSep Finset.univ fun t => slotAny (F := F) c t 1) ∗ bigSep Finset.univ fun q : Fin 4 => dutyTok ER (barCell (nbr q c)) 0 q)
    ⊢ bigSep Finset.univ fun q => tell (F := F) c q := by
  unfold tell
  rw [bigSep_sep', by_direction]

theorem awaits (c : Dev nD) : iprop((bigSep Finset.univ fun t => atPos ER (rcvCell c t) 0 ∅ 0) ∗ bigSep Finset.univ fun t => cred (tallyAt (rcvCell c t) () (units t)))
    ⊢ bigSep Finset.univ fun t => await (F := F) c t := by
  unfold await
  rw [bigSep_sep']

/-- What the body needs, from what the launch gives. -/
theorem pre_before (c : Dev nD) :
    bodyPre m c ⊢ iprop(∃ K, env (xAt m) (wAt m) K ∗ before (xAt m) (wAt m) c (Memref.whole cc0_stg0_0) (Memref.whole cc0_stg1_0) (Memref.whole cc0_stg2_0)) := by
  unfold bodyPre Φ₀ start scratch before Dat.owesAt Pipeline.owesWithin
  iintro ⟨⟨⟨Hs, Ho, Hcb, Hcr⟩, Hbufs, Hruns, Ht0, Ht1⟩, ⟨%W, %hW, HO⟩, ⟨%d0, Hx⟩, ⟨%d1, Hw⟩, %d2, Hout⟩
  ihave Hx := (x_in c _ (xAt m c) fun y => (congrFun (before_x m c d0) y).trans (xIn_at m c y)) $$ Hx
  ihave Hw := (w_in c _ (wAt m c) fun y => (congrFun (before_w m c d1) y).trans (wIn_at m c y)) $$ Hw
  ihave Hout := (out_in c _) $$ Hout
  ihave Hs := (shares_env (xAt m) (wAt m) c) $$ [Hs Ho]
  · isplitl [Hs] <;> iassumption
  unfold dealt
  icases Hs with ⟨%K, He, Hab, Har, Hbt, Htok⟩
  ihave Htell := (tells c) $$ [Ht1 Hbt]
  · isplitl [Ht1] <;> iassumption
  ihave Haw := (awaits c) $$ [Har Hcr]
  · isplitl [Har] <;> iassumption
  iexists K
  isplitl [He]; · iexact He
  isplitl [Hx Hw Hout]
  · isplitl [Hx]; · iexact Hx
    isplitl [Hw] <;> iassumption
  isplitl [Hbufs]; · iexact Hbufs
  isplitl [Hruns]; · iexact Hruns
  isplitl [Ht0]; · iexact Ht0
  isplitl [Htell]; · iexact Htell
  isplitl [Htok]; · iexact Htok
  isplitl [Haw]; · iexact Haw
  isplitl [Hab Hcb]
  · isplitl [Hab] <;> iassumption
  iexists W
  iexact HO

theorem dones (c : Dev nD) (x w : Dev nD → ℕ → ℕ → Elt F .f32) : (bigSep Finset.univ fun t => done x w c t)
    ⊢ iprop((bigSep Finset.univ fun t => slotAny (F := F) c t 0) ∗ bigSep Finset.univ fun t => semVal (sndCell c t) 0) := by
  unfold done
  rw [bigSep_sep']
  exact sep_mono_left (bigSep_mono fun t _ => slot_any c t 0 _)

theorem gots (c : Dev nD) (x w : Dev nD → ℕ → ℕ → Elt F .f32) : (bigSep Finset.univ fun t => got x w c t)
    ⊢ iprop((bigSep Finset.univ fun t => slotAny (F := F) c t 1) ∗ bigSep Finset.univ fun t => semVal (rcvCell c t) 0) := by
  unfold got
  rw [bigSep_sep']
  exact sep_mono_left (bigSep_mono fun t _ => slot_any c t 1 _)

/-- What the launch takes back, from what the body leaves. -/
theorem after_post (c : Dev nD) :
    after (xAt m) (wAt m) c (Memref.whole cc0_stg0_0) (Memref.whole cc0_stg1_0) (Memref.whole cc0_stg2_0) ⊢ bodyPost m c := by
  unfold bodyPost Φ₁ scratch after owing Dat.owesAt Pipeline.owesWithin
  iintro ⟨⟨Hx, Hw, Hout⟩, Hbufs, Hruns, Hd, Hg, Hb, %W, HO⟩
  ihave Hx := (x_out c (xIn m c) (xAt m c) (xIn_at m c)) $$ Hx
  ihave Hw := (w_out c (wIn m c) (wAt m c) (wIn_at m c)) $$ Hw
  ihave Hout := (out_out c (xAt m) (wAt m)) $$ Hout
  ihave Hd := (dones c (xAt m) (wAt m)) $$ Hd
  ihave Hg := (gots c (xAt m) (wAt m)) $$ Hg
  icases Hd with ⟨Hd, HzS⟩
  icases Hg with ⟨Hg, HzR⟩
  isplitl [Hbufs Hruns Hd Hg HzS HzR Hb]
  · isplitl [Hbufs Hruns Hd Hg]
    · isplitl [Hbufs]; · iexact Hbufs
      isplitl [Hruns]; · iexact Hruns
      isplitl [Hd] <;> iassumption
    isplitl [HzS]; · iexact HzS
    isplitl [HzR] <;> iassumption
  isplitl [HO]
  · iexists W
    isplitr
    · ipureintro; exact fun _ _ => Or.inl trivial
    ihave HO := (Entails.of_eq (congrArg (fun o => (owes (c : Thread nD τ) o W : sProp 𝕄)) (owedFrom_end c))) $$ HO
    iexact HO
  isplitl [Hx]; · iexact Hx
  isplitl [Hw]; · iexact Hw
  iexact Hout

/-- The body as the launch runs it. -/
abbrev body₀ : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28

theorem body₀_eq : body₀ (F := F) = Bufs.body (bufs (Memref.whole cc0_stg0_0) (Memref.whole cc0_stg1_0) (Memref.whole cc0_stg2_0)) := by
  unfold body₀
  rw [cc0_body_eq_skeleton]
  exact body_eq (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28

theorem sound_phases (c : Dev nD) : bodyPre m c
    ⊢ wpc c (inOrder ((bufs (Memref.whole cc0_stg0_0) (Memref.whole cc0_stg1_0) (Memref.whole cc0_stg2_0)).phases c)) (fun _ => bodyPost m c) := by
  iintro H
  ihave H := (pre_before m c) $$ H
  icases H with ⟨%K, He, H⟩
  have h := does_phases (xAt m) (wAt m) K c (Memref.whole cc0_stg0_0) (Memref.whole cc0_stg1_0) (Memref.whole cc0_stg2_0) PUnit pure (fun _ => bodyPost m c)
  rw [Prog.bind_pure] at h
  iapply h $$ [He H]
  · isplitl [He] <;> iassumption
  iintro H
  ihave H := (after_post m c) $$ H
  rw [Prog.pure_eq_ret]
  unfold wpc
  rw [wp_ret]
  imodintro
  iexact H

set_option maxRecDepth 100000 in
theorem sound_body (c : Dev nD) : bodyPre m c ⊢ wpc c (body₀ (F := F)) (fun _ => bodyPost m c) := by
  rw [body₀_eq]
  unfold Bufs.body
  simp only [Prog.lift, Prog.bind_op, Prog.bind_ret]
  have e : ∀ d : Dev nD, d = c → bodyPre m c
      ⊢ wpc c (inOrder ((bufs (Memref.whole cc0_stg0_0) (Memref.whole cc0_stg1_0) (Memref.whole cc0_stg2_0)).phases d)) (fun _ => bodyPost m c) := by
    rintro d rfl
    exact sound_phases m d
  unfold wpc
  rw [wp_deviceId]
  refine (e _ rfl).trans ?_
  unfold wpc
  exact .rfl

theorem bigSep_W (Φ : Fin cfg0.W → sProp (MT nD τ sig Unit (Elt F) ℕ UU ℕ)) :
    bigSep Finset.univ Φ = iprop(Φ (0 : Fin 3) ∗ Φ (1 : Fin 3) ∗ Φ (2 : Fin 3)) := bigSep_W0 Φ

/-- A window's staging buffer at contents `X`. -/
abbrev stgOwns (c : Dev nD) (b : Ref sig .tc) (X : b.ty.Contents (Elt F)) : sProp 𝕄 :=
  owns (Ix := Unit) (Name := ℕ) (U := UU) (Lvl := ℕ) (c : Thread nD τ) (Memref.whole b) fullShare X

def pre₀ (c : Dev nD) : sProp 𝕄 :=
  iprop(Φ₀ m c ∗ (dats m 0 c).owesAt () t0_0.castSucc
    ∗ (∃ d, stgOwns c cc0_stg0_0 ((dats m 0 c).before (0 : Fin 3) t0_0 d))
    ∗ (∃ d, stgOwns c cc0_stg1_0 ((dats m 0 c).before (1 : Fin 3) t0_0 d))
    ∗ (∃ d, stgOwns c cc0_stg2_0 ((dats m 0 c).before (2 : Fin 3) t0_0 d)))

def post₀ (c : Dev nD) : sProp 𝕄 :=
  iprop(Φ₁ (F := F) c ∗ (dats m 0 c).owesAt () t0_0.succ ∗ stgOwns c cc0_stg0_0 (xIn m c) ∗ stgOwns c cc0_stg1_0 (wIn m c) ∗ stgOwns c cc0_stg2_0 (outIs m c))

theorem pre₀_eq (c : Dev nD) : pre₀ m c = bodyPre m c := by
  unfold pre₀ bodyPre stgOwns
  simp only [owns_whole]

theorem post₀_eq (c : Dev nD) : post₀ m c = bodyPost m c := by
  unfold post₀ bodyPost stgOwns
  simp only [owns_whole]

theorem sound₀ (c : Dev nD) : pre₀ m c ⊢ wpc c (body₀ (F := F)) (fun _ => post₀ m c) := by
  rw [pre₀_eq, post₀_eq]
  exact sound_body m c

set_option maxRecDepth 40000 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  exact sound₀ m c

end Body

end Cert.Butterfly
-- ==== Proof.Execution.lean ====
/-
Every execution of the program on the sixteen devices ends, with the result of every device as the exchanges leave it.
-/
module

public import proofs.«01_k».proof.Proof.Obligation
public import Idealize.ShloMosaic.Lib.Pipeline.CollectiveSegs

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Pipeline.Dat.share; split <;> rfl

/-- The staging semaphores are none of the exchanges'. -/
theorem stage_none (w : Fin cfg0.W) (s : Fin (cfg0.win w).nbuf) : decode (.dma ((cfg0.win w).sem s)) = none :=
  decode_none _ fun k => by
    revert k
    fin_cases w <;> fin_cases s <;> decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ shares (xAt m) (wAt m) c)
      ⊢ |={Set.univ}=> iprop(start m c ∗ emp) := by
  iintro ⟨-, Hlev, Hcr, -, HG⟩
  ihave Hc := (creds (F := F) c) $$ Hcr
  imodintro
  unfold start order
  isplitl
  · isplitl [HG]; · iexact HG
    isplitl [Hlev]; · iexact Hlev
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  ihave Hr := (scratch_in (F := F) c) $$ Hr
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, ownSems0_eq, unscopedSems0_eq, bigSep_pairs]
  unfold Φ₁
  iintro ⟨Hr, HzS, HzV, HzB⟩
  ihave Hr := (scratch_out (F := F) c) $$ Hr
  isplitl [HzB]; · iexact HzB
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (stage_none w s) _ (by
      rcases t with ⟨_ | _, ht⟩
      · exact Or.inl rfl
      · exact Or.inr rfl)

/-- What device `c`'s array of a window holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- Over any float values, from any memory with zero counters: every execution of the program ends, each array of a
window as computed and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := given (xAt m) (wAt m)) (G' := shares (xAt m) (wAt m)) (u₀ := u₀)
    (hu₀ := by
      unfold u₀
      iintro Hu
      ihave H := (ownU_pair _ _) $$ Hu
      icases H with ⟨HP, HX⟩
      imod (fund (xAt m) (wAt m)) $$ HX with HG
      imodintro
      isplitl [HP] <;> iassumption)
    (hglob := glob (xAt m) (wAt m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_x (c : Dev nD) : finalA m c (0 : Fin 3) = m (win0_0.arr.view.loc (c : Thread nD τ)) :=
  (dats (F := F) m 0 c).arrAt_in (0 : Fin 3) rfl _

theorem finalA_w (c : Dev nD) : finalA m c (1 : Fin 3) = m (win0_1.arr.view.loc (c : Thread nD τ)) :=
  (dats (F := F) m 0 c).arrAt_in (1 : Fin 3) rfl _

end Whole

end Cert.Butterfly
-- ==== Proof.Whole.lean ====
/-
The value claim: from operands that are the blocks of two whole matrices, every device ends with its block of rows of the product,
and zero where the product is negative.
-/
module

public import proofs.«01_k».proof.Proof.Product
public import proofs.«01_k».proof.Proof.Execution
public import proofs.«01_k».proof.Proof.Gen.ReferenceIdeal.Run

public import proofs.«01_k».proof.Defs
public import Idealize.ShloMosaic.Lib.Pipeline.ValueKit.Acc

@[expose] public section

noncomputable section

namespace Cert.Butterfly

open Cert.KernelIdeal Cert.KernelIdeal.Gen

open Idealize.ShloMosaic

/-! ## The arrays, read through their windows -/

section Arrays

variable {F : FTy → Type} [FloatOps F] (m : (ℓ : Loc nD τ sig) → Buf (Elt F) ℓ)

/-- A window is the whole array, at block zero. -/
theorem zero_off (b : Ref sig .tc) (i : Fin b.ty.shape.rank → ℕ) (hi : ∀ a, i a = 0) : (fun a => i a * b.ty.shape.size a) = fun _ => 0 :=
  funext fun a => by rw [hi, Nat.zero_mul]

theorem xIn_eq (c : Dev nD) : xIn m c = m ((c.tc : Thread nD τ).loc main_arg0) :=
  Memref.read_access_unit_zero (Elt F) main_arg0 (zero_off main_arg0 (win0_0.index (0 : Fin 1)) fun a => by fin_cases a <;> decide)
    (fun a => by fin_cases a <;> decide) _

theorem wIn_eq (c : Dev nD) : wIn m c = m ((c.tc : Thread nD τ).loc main_arg1) :=
  Memref.read_access_unit_zero (Elt F) main_arg1 (zero_off main_arg1 (win0_1.index (0 : Fin 1)) fun a => by fin_cases a <;> decide)
    (fun a => by fin_cases a <;> decide) _

theorem finalA_out (c : Dev nD) : finalA m c (2 : Fin 3) = outIs m c := by
  refine (Memref.read_access_unit_zero (Elt F) main_v1 (zero_off main_v1 (win0_2.index (0 : Fin 1)) fun a => by fin_cases a <;> decide)
    (fun a => by fin_cases a <;> decide) (finalA m c (2 : Fin 3))).symm.trans ?_
  show (win0_2.blk (0 : Fin 1)).view.read (Elt F) (finalA m c (2 : Fin 3)) = outIs m c
  unfold finalA
  rw [show cfg0.N = ((0 : Fin 1) : Fin cfg0.N).val + 1 from rfl, (dats m 0 c).arrAt_succ (2 : Fin 3) (0 : Fin 1),
    show (cfg0.win (2 : Fin 3)).flush (0 : Fin 1) = true from by decide, if_pos rfl]
  exact View.read_write_univ _ _

end Arrays

/-! ## The product -/

/-- The reference's result. -/
abbrev relu (X W : (⟨2, ![1024, 1024]⟩ : Shape).Idx → EReal) : (⟨2, ![1024, 1024]⟩ : Shape).Idx → EReal :=
  maximumf (F := Ideal) (φ := .f32)
    (Host.dotGeneral (F := Ideal) (φ₁ := .f32) (φ₂ := .f32) Cert.ReferenceIdeal.dot_S1024x1024_S1024x1024_S1024x1024_1_0_0_1_n_n none X W)
    (broadcastInDim Cert.ReferenceIdeal.S1024x1024 ![] Cert.ReferenceIdeal.Gen.bcast_S_S1024x1024 (constant Cert.ReferenceIdeal.S_ .f32 0x00000000#32))

theorem relu_at (X W : (⟨2, ![1024, 1024]⟩ : Shape).Idx → EReal) (j : (⟨2, ![1024, 1024]⟩ : Shape).Idx) :
    relu X W j = max (∑ k : Fin 1024, X (ix2 (j 0) k) * W (ix2 k (j 1))) 0 := by
  pointwise [relu]

/-- A device's result, from operands that are its blocks of two matrices, is its block of rows of the reference's. -/
theorem out_block (m : (ℓ : Loc nD τ sig) → Buf (Elt Ideal) ℓ) (X W : (⟨2, ![1024, 1024]⟩ : Shape).Idx → EReal)
    (hX : ∀ c : Dev nD, m ((c.tc : Thread nD τ).loc main_arg0) = Layout.block ⟨2, ![1024, 64]⟩ ⟨2, ![1024, 1024]⟩ 1 16 c X)
    (hW : ∀ c : Dev nD, m ((c.tc : Thread nD τ).loc main_arg1) = Layout.block ⟨2, ![64, 1024]⟩ ⟨2, ![1024, 1024]⟩ 0 16 c W) (c : Dev nD) :
    outIs m c = Layout.block ⟨2, ![64, 1024]⟩ ⟨2, ![1024, 1024]⟩ 0 16 c (relu X W) := by
  funext y
  have h0 : (y 0).val < 64 := (y 0).isLt
  have h1 : (y 1).val < 1024 := (y 1).isLt
  have hc : c.val < 16 := c.isLt
  refine (result_at _ _ c _ _ h0 h1).trans ?_
  rw [Layout.block_apply, relu_at]
  refine congrArg (max · 0) ?_
  have e := Fin.sum_univ_univ_mul_add 16 64 (fun k => if hk : k < 1024 then X (ix2 ⟨c.val * 64 + (y 0).val, by omega⟩ ⟨k, hk⟩) * W (ix2 ⟨k, hk⟩ ⟨(y 1).val, h1⟩) else 0)
  refine Eq.trans (Finset.sum_congr rfl fun d _ => Finset.sum_congr rfl fun l _ => ?_) (e.trans (Finset.sum_congr rfl fun k _ => ?_))
  · have hd : d.val < 16 := d.isLt
    have hl : l.val < 64 := l.isLt
    rw [dif_pos (by omega), xAt, wAt, xIn_eq, wIn_eq, hX, hW, Layout.block_apply, Layout.block_apply]
    congr 2 <;> funext a <;> fin_cases a <;> apply Fin.ext <;> simp [Layout.Tiles.idx_val, ix, ix2] <;> omega
  · rw [dif_pos k.isLt]
    rfl

theorem algebraic : Cert.algebraic_KernelIdeal_ReferenceIdeal := by
  intro m g m' g' _ hm
  refine ⟨_, (θ_run Cert.KernelIdeal.defs _ _).mono (fun _ h c => ⟨?_, ?_, ?_⟩) (run_main (F := Ideal) m g),
    (θ_run Cert.ReferenceIdeal.defs _ _).mono (fun _ h => h 0) (Cert.ReferenceIdeal.Value.run (F := Ideal) m' g')⟩
  · exact ((h.1 c (2 : Fin 3)).trans (finalA_out m c)).trans (out_block m _ _ (fun c => (hm c).1) (fun c => (hm c).2) c)
  · exact (h.1 c (0 : Fin 3)).trans (finalA_x m c)
  · exact (h.1 c (1 : Fin 3)).trans (finalA_w m c)

end Cert.Butterfly
-- ==== Proof.Same.lean ====
/-
The table of the kernel's functions over bit patterns is the idealized kernel's: the two programs have the same text.
-/
module

public import proofs.«01_k».proof.Defs
public import proofs.«01_k».proof.Proof.Gen.Kernel
public import proofs.«01_k».proof.Proof.Gen.KernelIdeal

@[expose] public section

noncomputable section

namespace Cert.Butterfly

open Idealize.ShloMosaic

variable {F : FTy → Type} [FloatOps F]

theorem defs₀_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀))
    (funext fun l => funext fun a => ?_)
  match l, a with
  | ⟨0, _⟩, (t, s) => rfl
  | ⟨n + 1, h⟩, _ => exact absurd h (Nat.not_lt.2 (Nat.le_add_left _ _))

theorem defs_eq : Cert.Kernel.defs (F := F) = Cert.KernelIdeal.defs (F := F) :=
  congrArg (Pipeline.defs (nD := Cert.Kernel.nD) (τ := Cert.Kernel.τ) (Cert.Kernel.pcfgs (F := F))) defs₀_eq

end Cert.Butterfly
-- ==== Proof.lean ====
/-
The claim: the frames of the kernel over bit patterns and over extended reals and of the reference, that the idealized kernel is
the kernel's own text, and that the kernel's result is the reference's, block by block.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Over any float values the kernel ends on every device, its operands kept and every counter at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (Butterfly.finalA_x m c), (h.1 c (1 : Fin 3)).trans (Butterfly.finalA_w m c)⟩, h.2⟩)
    (Butterfly.run_main m ρ)

theorem frame_kernelIdeal : Cert.quiescent_KernelIdeal := fun m ρ _ => kept m ρ

/-- The kernel over bit patterns is the same program. -/
theorem frame_kernel : Cert.quiescent_Kernel := by
  intro m ρ _
  rw [Butterfly.defs_eq]
  exact kept (F := Bits) m ρ

/-- The reference ends with its arguments kept; it has no counters. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_referenceIdeal, trivial, Butterfly.algebraic⟩

end Cert.Proof

end
